-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S_ : Shape := ⟨0, ![]⟩
abbrev S1024x1 : Shape := ⟨2, ![1024, 1]⟩
abbrev S1024x16 : Shape := ⟨2, ![1024, 16]⟩
abbrev S16x64x16 : Shape := ⟨3, ![16, 64, 16]⟩
abbrev S16x16 : Shape := ⟨2, ![16, 16]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  slices_S1024x2_S1024x1_0_0 : S1024x2.Slices ![0, 0] S1024x1
  slices_S1024x2_S1024x1_0_1 : S1024x2.Slices ![0, 1] S1024x1
  bcast_S_S1024x2 : S_.BroadcastsInDim S1024x2 (![] : Fin 0 → Fin S1024x2.rank)
  bcast_S_S1024x16 : S_.BroadcastsInDim S1024x16 (![] : Fin 0 → Fin S1024x16.rank)
  bcast_S1024x1_S1024x16_0_1 : S1024x1.BroadcastsInDim S1024x16 (![0, 1] : Fin 2 → Fin S1024x16.rank)
  natLt_1_32 : 1 < 32
  shapeCasts_S1024x16_S16x64x16 : S1024x16.ShapeCasts S16x64x16
  reducesTo_S16x64x16_S16x16_d1 : S16x64x16.ReducesTo [1] S16x16
  reducesTo_S1024x2_S_d0_1 : S1024x2.ReducesTo [0, 1] S_
  reducesTo_S1024x1_S_d0_1 : S1024x1.ReducesTo [0, 1] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_v8 : IVec S_ 1) (main_v9 : IVec S1024x1 32) (main_v10 : IVec S1024x1 32) (main_v15 : IVec S1024x2 1) (main_v36 : IVec S16x16 32) (main_c_8 : IVec S_ 1) : IVec S_ 1 :=
  let main_v37 : IVec S_ 1 := (fun x v => Host.reduce IntOp.andi x v reducesTo_S1024x2_S_d0_1 h_S_) main_v15 main_c_8
  let main_v38 : IVec S_ 1 := andi main_v8 main_v37
  let main_v39 : IVec S1024x1 1 := cmpi .ne main_v9 main_v10
  let main_c_9 : IVec S_ 1 := constantI S_ 1 1#1
  let main_v40 : IVec S_ 1 := (fun x v => Host.reduce IntOp.andi x v reducesTo_S1024x1_S_d0_1 h_S_) main_v39 main_c_9
  let main_v41 : IVec S_ 1 := andi main_v38 main_v40
  let main_c_10 : IVec S_ 32 := constantI S_ 32 24#32
  let main_v42 : IVec S16x16 32 := broadcastInDim S16x16 ![] bcast_S_S16x16 main_c_10
  let main_v43 : IVec S16x16 1 := cmpi .sle main_v36 main_v42
  let main_c_11 : IVec S_ 1 := constantI S_ 1 1#1
  let main_v44 : IVec S_ 1 := (fun x v => Host.reduce IntOp.andi x v reducesTo_S16x16_S_d0_1 h_S_) main_v43 main_c_11
  let main_v45 : IVec S_ 1 := andi main_v41 main_v44
  main_v45

def fn_part1 {F : FTy → Type} [FloatOps F] (main_v8 : IVec S_ 1) (main_v9 : IVec S1024x1 32) (main_v10 : IVec S1024x1 32) (main_v15 : IVec S1024x2 1) (main_v16 : IVec S1024x16 32) (main_c_4 : IVec S_ 32) : IVec S_ 1 :=
  let main_v17 : IVec S1024x16 32 := broadcastInDim S1024x16 ![] bcast_S_S1024x16 main_c_4
  let main_v18 : IVec S1024x16 32 := muli main_v16 main_v17
  let main_v19 : IVec S1024x16 32 := broadcastInDim S1024x16 ![0, 1] bcast_S1024x1_S1024x16_0_1 main_v9
  let main_v20 : IVec S1024x16 1 := cmpi .sle main_v18 main_v19
  let main_c_5 : IVec S_ 32 := constantI S_ 32 4#32
  let main_v21 : IVec S1024x16 32 := broadcastInDim S1024x16 ![] bcast_S_S1024x16 main_c_5
  let main_v22 : IVec S1024x16 32 := addi main_v18 main_v21
  let main_v23 : IVec S1024x16 32 := broadcastInDim S1024x16 ![0, 1] bcast_S1024x1_S1024x16_0_1 main_v9
  let main_v24 : IVec S1024x16 1 := cmpi .slt main_v23 main_v22
  let main_v25 : IVec S1024x16 1 := andi main_v20 main_v24
  let main_v26 : IVec S1024x16 32 := broadcastInDim S1024x16 ![0, 1] bcast_S1024x1_S1024x16_0_1 main_v10
  let main_v27 : IVec S1024x16 1 := cmpi .sle main_v18 main_v26
  let main_c_6 : IVec S_ 32 := constantI S_ 32 4#32
  let main_v28 : IVec S1024x16 32 := broadcastInDim S1024x16 ![] bcast_S_S1024x16 main_c_6
  let main_v29 : IVec S1024x16 32 := addi main_v18 main_v28
  let main_v30 : IVec S1024x16 32 := broadcastInDim S1024x16 ![0, 1] bcast_S1024x1_S1024x16_0_1 main_v10
  let main_v31 : IVec S1024x16 1 := cmpi .slt main_v30 main_v29
  let main_v32 : IVec S1024x16 1 := andi main_v27 main_v31
  let main_v33 : IVec S1024x16 1 := ori main_v25 main_v32
  let main_v34 : IVec S1024x16 32 := (extui 32 · natLt_1_32) main_v33
  let main_v35 : IVec S16x64x16 32 := shapeCast S16x64x16 main_v34 shapeCasts_S1024x16_S16x64x16
  let main_c_7 : IVec S_ 32 := constantI S_ 32 0#32
  let main_v36 : IVec S16x16 32 := (fun x v => Host.reduce IntOp.addi x v reducesTo_S16x64x16_S16x16_d1 h_S_) main_v35 main_c_7
  let main_c_8 : IVec S_ 1 := constantI S_ 1 1#1
  fn_part2 (F := F) main_v8 main_v9 main_v10 main_v15 main_v36 main_c_8

def fn {F : FTy → Type} [FloatOps F] (main_arg0 : FVec F S1024x512 .f32) (main_arg1 : FVec F S512x64 .f32) (main_arg2 : IVec S1024x2 32) (main_arg3 : FVec F S4x512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : IVec S1024x1 32 := (extractStridedSlice S1024x1 ![0, 0] · slices_S1024x2_S1024x1_0_0) main_arg2
  let main_v10 : IVec S1024x1 32 := (extractStridedSlice S1024x1 ![0, 1] · slices_S1024x2_S1024x1_0_1) main_arg2
  let main_c_2 : IVec S_ 32 := constantI S_ 32 0#32
  let main_v11 : IVec S1024x2 32 := broadcastInDim S1024x2 ![] bcast_S_S1024x2 main_c_2
  let main_v12 : IVec S1024x2 1 := cmpi .sge main_arg2 main_v11
  let main_c_3 : IVec S_ 32 := constantI S_ 32 64#32
  let main_v13 : IVec S1024x2 32 := broadcastInDim S1024x2 ![] bcast_S_S1024x2 main_c_3
  let main_v14 : IVec S1024x2 1 := cmpi .slt main_arg2 main_v13
  let main_v15 : IVec S1024x2 1 := andi main_v12 main_v14
  let main_v16 : IVec S1024x16 32 := iotaInDim S1024x16 32 1
  let main_c_4 : IVec S_ 32 := constantI S_ 32 4#32
  fn_part1 (F := F) main_v8 main_v9 main_v10 main_v15 main_v16 main_c_4
-- ==== Pre_routed_ReferenceIdeal.lean ====
abbrev S1024x512 : Shape := ⟨2, ![1024, 512]⟩
abbrev S512x64 : Shape := ⟨2, ![512, 64]⟩
abbrev S1024x2 : Shape := ⟨2, ![1024, 2]⟩
abbrev S64x512x1024 : Shape := ⟨3, ![64, 512, 1024]⟩
abbrev S_ : Shape := ⟨0, ![]⟩
abbrev S1024x1 : Shape := ⟨2, ![1024, 1]⟩
abbrev S1024x16 : Shape := ⟨2, ![1024, 16]⟩
abbrev S16x64x16 : Shape := ⟨3, ![16, 64, 16]⟩
abbrev S16x16 : Shape := ⟨2, ![16, 16]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  slices_S1024x2_S1024x1_0_0 : S1024x2.Slices ![0, 0] S1024x1
  slices_S1024x2_S1024x1_0_1 : S1024x2.Slices ![0, 1] S1024x1
  bcast_S_S1024x2 : S_.BroadcastsInDim S1024x2 (![] : Fin 0 → Fin S1024x2.rank)
  bcast_S_S1024x16 : S_.BroadcastsInDim S1024x16 (![] : Fin 0 → Fin S1024x16.rank)
  bcast_S1024x1_S1024x16_0_1 : S1024x1.BroadcastsInDim S1024x16 (![0, 1] : Fin 2 → Fin S1024x16.rank)
  natLt_1_32 : 1 < 32
  shapeCasts_S1024x16_S16x64x16 : S1024x16.ShapeCasts S16x64x16
  reducesTo_S16x64x16_S16x16_d1 : S16x64x16.ReducesTo [1] S16x16
  reducesTo_S1024x2_S_d0_1 : S1024x2.ReducesTo [0, 1] S_
  reducesTo_S1024x1_S_d0_1 : S1024x1.ReducesTo [0, 1] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_v8 : IVec S_ 1) (main_v9 : IVec S1024x1 32) (main_v10 : IVec S1024x1 32) (main_v15 : IVec S1024x2 1) (main_v36 : IVec S16x16 32) (main_c_8 : IVec S_ 1) : IVec S_ 1 :=
  let main_v37 : IVec S_ 1 := (fun x v => Host.reduce IntOp.andi x v reducesTo_S1024x2_S_d0_1 h_S_) main_v15 main_c_8
  let main_v38 : IVec S_ 1 := andi main_v8 main_v37
  let main_v39 : IVec S1024x1 1 := cmpi .ne main_v9 main_v10
  let main_c_9 : IVec S_ 1 := constantI S_ 1 1#1
  let main_v40 : IVec S_ 1 := (fun x v => Host.reduce IntOp.andi x v reducesTo_S1024x1_S_d0_1 h_S_) main_v39 main_c_9
  let main_v41 : IVec S_ 1 := andi main_v38 main_v40
  let main_c_10 : IVec S_ 32 := constantI S_ 32 24#32
  let main_v42 : IVec S16x16 32 := broadcastInDim S16x16 ![] bcast_S_S16x16 main_c_10
  let main_v43 : IVec S16x16 1 := cmpi .sle main_v36 main_v42
  let main_c_11 : IVec S_ 1 := constantI S_ 1 1#1
  let main_v44 : IVec S_ 1 := (fun x v => Host.reduce IntOp.andi x v reducesTo_S16x16_S_d0_1 h_S_) main_v43 main_c_11
  let main_v45 : IVec S_ 1 := andi main_v41 main_v44
  main_v45

def fn_part1 {F : FTy → Type} [FloatOps F] (main_v8 : IVec S_ 1) (main_v9 : IVec S1024x1 32) (main_v10 : IVec S1024x1 32) (main_v15 : IVec S1024x2 1) (main_v16 : IVec S1024x16 32) (main_c_4 : IVec S_ 32) : IVec S_ 1 :=
  let main_v17 : IVec S1024x16 32 := broadcastInDim S1024x16 ![] bcast_S_S1024x16 main_c_4
  let main_v18 : IVec S1024x16 32 := muli main_v16 main_v17
  let main_v19 : IVec S1024x16 32 := broadcastInDim S1024x16 ![0, 1] bcast_S1024x1_S1024x16_0_1 main_v9
  let main_v20 : IVec S1024x16 1 := cmpi .sle main_v18 main_v19
  let main_c_5 : IVec S_ 32 := constantI S_ 32 4#32
  let main_v21 : IVec S1024x16 32 := broadcastInDim S1024x16 ![] bcast_S_S1024x16 main_c_5
  let main_v22 : IVec S1024x16 32 := addi main_v18 main_v21
  let main_v23 : IVec S1024x16 32 := broadcastInDim S1024x16 ![0, 1] bcast_S1024x1_S1024x16_0_1 main_v9
  let main_v24 : IVec S1024x16 1 := cmpi .slt main_v23 main_v22
  let main_v25 : IVec S1024x16 1 := andi main_v20 main_v24
  let main_v26 : IVec S1024x16 32 := broadcastInDim S1024x16 ![0, 1] bcast_S1024x1_S1024x16_0_1 main_v10
  let main_v27 : IVec S1024x16 1 := cmpi .sle main_v18 main_v26
  let main_c_6 : IVec S_ 32 := constantI S_ 32 4#32
  let main_v28 : IVec S1024x16 32 := broadcastInDim S1024x16 ![] bcast_S_S1024x16 main_c_6
  let main_v29 : IVec S1024x16 32 := addi main_v18 main_v28
  let main_v30 : IVec S1024x16 32 := broadcastInDim S1024x16 ![0, 1] bcast_S1024x1_S1024x16_0_1 main_v10
  let main_v31 : IVec S1024x16 1 := cmpi .slt main_v30 main_v29
  let main_v32 : IVec S1024x16 1 := andi main_v27 main_v31
  let main_v33 : IVec S1024x16 1 := ori main_v25 main_v32
  let main_v34 : IVec S1024x16 32 := (extui 32 · natLt_1_32) main_v33
  let main_v35 : IVec S16x64x16 32 := shapeCast S16x64x16 main_v34 shapeCasts_S1024x16_S16x64x16
  let main_c_7 : IVec S_ 32 := constantI S_ 32 0#32
  let main_v36 : IVec S16x16 32 := (fun x v => Host.reduce IntOp.addi x v reducesTo_S16x64x16_S16x16_d1 h_S_) main_v35 main_c_7
  let main_c_8 : IVec S_ 1 := constantI S_ 1 1#1
  fn_part2 (F := F) main_v8 main_v9 main_v10 main_v15 main_v36 main_c_8

def fn {F : FTy → Type} [FloatOps F] (main_arg0 : FVec F S1024x512 .f32) (main_arg1 : FVec F S512x64 .f32) (main_arg2 : IVec S1024x2 32) (main_arg3 : FVec F S64x512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : IVec S1024x1 32 := (extractStridedSlice S1024x1 ![0, 0] · slices_S1024x2_S1024x1_0_0) main_arg2
  let main_v10 : IVec S1024x1 32 := (extractStridedSlice S1024x1 ![0, 1] · slices_S1024x2_S1024x1_0_1) main_arg2
  let main_c_2 : IVec S_ 32 := constantI S_ 32 0#32
  let main_v11 : IVec S1024x2 32 := broadcastInDim S1024x2 ![] bcast_S_S1024x2 main_c_2
  let main_v12 : IVec S1024x2 1 := cmpi .sge main_arg2 main_v11
  let main_c_3 : IVec S_ 32 := constantI S_ 32 64#32
  let main_v13 : IVec S1024x2 32 := broadcastInDim S1024x2 ![] bcast_S_S1024x2 main_c_3
  let main_v14 : IVec S1024x2 1 := cmpi .slt main_arg2 main_v13
  let main_v15 : IVec S1024x2 1 := andi main_v12 main_v14
  let main_v16 : IVec S1024x16 32 := iotaInDim S1024x16 32 1
  let main_c_4 : IVec S_ 32 := constantI S_ 32 4#32
  fn_part1 (F := F) main_v8 main_v9 main_v10 main_v15 main_v16 main_c_4
-- ==== Kernel.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S384 : Shape := ⟨1, ![384]⟩
abbrev S384x1 : Shape := ⟨2, ![384, 1]⟩
abbrev S384x1024 : Shape := ⟨2, ![384, 1024]⟩
abbrev S64x1024 : Shape := ⟨2, ![64, 1024]⟩
abbrev S16x25x1024 : Shape := ⟨3, ![16, 25, 1024]⟩
abbrev S16 : Shape := ⟨1, ![16]⟩
abbrev S1024x64 : Shape := ⟨2, ![1024, 64]⟩
abbrev S64x4 : Shape := ⟨2, ![64, 4]⟩
abbrev S1024x4 : Shape := ⟨2, ![1024, 4]⟩
abbrev S384x512 : Shape := ⟨2, ![384, 512]⟩
abbrev S384x4 : Shape := ⟨2, ![384, 4]⟩
abbrev S1x512x1024 : Shape := ⟨3, ![1, 512, 1024]⟩
abbrev S512x1024 : Shape := ⟨2, ![512, 1024]⟩
abbrev S24x1024 : Shape := ⟨2, ![24, 1024]⟩
abbrev S1x24x1024 : Shape := ⟨3, ![1, 24, 1024]⟩
abbrev S1x64 : Shape := ⟨2, ![1, 64]⟩
abbrev S1x896 : Shape := ⟨2, ![1, 896]⟩
abbrev S25x1024 : Shape := ⟨2, ![25, 1024]⟩
abbrev S1x25x1024 : Shape := ⟨3, ![1, 25, 1024]⟩
abbrev S1 : Shape := ⟨1, ![1]⟩
abbrev S64x24 : Shape := ⟨2, ![64, 24]⟩
abbrev S1x1x64 : Shape := ⟨3, ![1, 1, 64]⟩
abbrev S64x1 : Shape := ⟨2, ![64, 1]⟩
abbrev S64x384 : Shape := ⟨2, ![64, 384]⟩

abbrev nBuf : Space → Nat
  | .hbm => 39
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x2, .i32⟩
  | .hbm, ⟨3, _⟩ => ⟨S4x512x1024, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024x1, .i32⟩
  | .hbm, ⟨9, _⟩ => ⟨S1x1024, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1, .i32⟩
  | .hbm, ⟨14, _⟩ => ⟨S1x1024, .i32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S1024x1024, .i1⟩
  | .hbm, ⟨19, _⟩ => ⟨S1024x1024, .bf16⟩
  | .hbm, ⟨20, _⟩ => ⟨S384, .i32⟩
  | .hbm, ⟨21, _⟩ => ⟨S_, .i32⟩
  | .hbm, ⟨22, _⟩ => ⟨S384, .i32⟩
  | .hbm, ⟨23, _⟩ => ⟨S384, .i32⟩
  | .hbm, ⟨24, _⟩ => ⟨S384x1, .i32⟩
  | .hbm, ⟨25, _⟩ => ⟨S1x1024, .i32⟩
  | .hbm, ⟨26, _⟩ => ⟨S384x1024, .i32⟩
  | .hbm, ⟨27, _⟩ => ⟨S384x1024, .i32⟩
  | .hbm, ⟨28, _⟩ => ⟨S384x1024, .i1⟩
  | .hbm, ⟨29, _⟩ => ⟨S384x1024, .bf16⟩
  | .hbm, ⟨30, _⟩ => ⟨S384, .i32⟩
  | .hbm, ⟨31, _⟩ => ⟨S_, .i32⟩
  | .hbm, ⟨32, _⟩ => ⟨S384, .i32⟩
  | .hbm, ⟨33, _⟩ => ⟨S384, .i32⟩
  | .hbm, ⟨34, _⟩ => ⟨S384, .f32⟩
  | .hbm, ⟨35, _⟩ => ⟨S384x1, .f32⟩
  | .hbm, ⟨36, _⟩ => ⟨S384x1024, .f32⟩
  | .hbm, ⟨37, _⟩ => ⟨S4x512x1024, .bf16⟩
  | .hbm, ⟨38, _⟩ => ⟨S64x1024, .f32⟩
  | .local _ .vmem, ⟨0, _⟩ => ⟨S1024x512, .f32⟩
  | .local _ .vmem, ⟨1, _⟩ => ⟨S512x64, .f32⟩
  | .local _ .vmem, ⟨2, _⟩ => ⟨S1024x2, .i32⟩
  | .local _ .vmem, ⟨3, _⟩ => ⟨S4x512x1024, .bf16⟩
  | .local _ .vmem, ⟨4, _⟩ => ⟨S1024x1024, .bf16⟩
  | .local _ .vmem, ⟨5, _⟩ => ⟨S384x1024, .bf16⟩
  | .local _ .vmem, ⟨6, _⟩ => ⟨S384x1024, .f32⟩
  | .local _ .vmem, ⟨7, _⟩ => ⟨S64x1024, .f32⟩
  | .local _ .vmem, ⟨8, _⟩ => ⟨S16x25x1024, .bf16⟩
  | .local _ .vmem, ⟨9, _⟩ => ⟨S16x25x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  let c0_i32_211 : BitVec 32 := 0#32
  ![v2.toNat, 0, 0]
def k0_off3 (d0 : Dev nD) (c1_i32_205 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v418 : BitVec 32 := Scalar.addi v2 c1_i32_205
  let c16_i32_206 : BitVec 32 := 16#32
  let v419 : BitVec 32 := Scalar.remsi v418 c16_i32_206
  let c0_i32_212 : BitVec 32 := 0#32
  let c0_i32_213 : BitVec 32 := 0#32
  ![v419.toNat, 0, 0]
def k0_dev16 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_205 : BitVec 32 := 1#32
  let v418 : BitVec 32 := Scalar.addi v2 c1_i32_205
  let c16_i32_206 : BitVec 32 := 16#32
  let v419 : BitVec 32 := Scalar.remsi v418 c16_i32_206
  let c1_i32_208 : BitVec 32 := 1#32
  let v420 : BitVec 32 := Scalar.muli v419 c1_i32_208
  let v421 : BitVec 32 := Scalar.addi c0_i32_209 v420
  v421.toNat
def k0_dev17 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_214 : BitVec 32 := 2#32
  let v430 : BitVec 32 := Scalar.addi v2 c2_i32_214
  let c16_i32_215 : BitVec 32 := 16#32
  let v431 : BitVec 32 := Scalar.remsi v430 c16_i32_215
  let c1_i32_217 : BitVec 32 := 1#32
  let v432 : BitVec 32 := Scalar.muli v431 c1_i32_217
  let v433 : BitVec 32 := Scalar.addi c0_i32_218 v432
  v433.toNat
def k0_dev18 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_223 : BitVec 32 := 3#32
  let v442 : BitVec 32 := Scalar.addi v2 c3_i32_223
  let c16_i32_224 : BitVec 32 := 16#32
  let v443 : BitVec 32 := Scalar.remsi v442 c16_i32_224
  let c1_i32_226 : BitVec 32 := 1#32
  let v444 : BitVec 32 := Scalar.muli v443 c1_i32_226
  let v445 : BitVec 32 := Scalar.addi c0_i32_227 v444
  v445.toNat
def k0_dev19 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v454 : BitVec 32 := Scalar.addi v2 c4_i32_232
  let c16_i32_233 : BitVec 32 := 16#32
  let v455 : BitVec 32 := Scalar.remsi v454 c16_i32_233
  let c1_i32_235 : BitVec 32 := 1#32
  let v456 : BitVec 32 := Scalar.muli v455 c1_i32_235
  let v457 : BitVec 32 := Scalar.addi c0_i32_236 v456
  v457.toNat
def k0_dev20 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_241 : BitVec 32 := 5#32
  let v466 : BitVec 32 := Scalar.addi v2 c5_i32_241
  let c16_i32_242 : BitVec 32 := 16#32
  let v467 : BitVec 32 := Scalar.remsi v466 c16_i32_242
  let c1_i32_244 : BitVec 32 := 1#32
  let v468 : BitVec 32 := Scalar.muli v467 c1_i32_244
  let v469 : BitVec 32 := Scalar.addi c0_i32_245 v468
  v469.toNat
def k0_dev21 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_250 : BitVec 32 := 6#32
  let v478 : BitVec 32 := Scalar.addi v2 c6_i32_250
  let c16_i32_251 : BitVec 32 := 16#32
  let v479 : BitVec 32 := Scalar.remsi v478 c16_i32_251
  let c1_i32_253 : BitVec 32 := 1#32
  let v480 : BitVec 32 := Scalar.muli v479 c1_i32_253
  let v481 : BitVec 32 := Scalar.addi c0_i32_254 v480
  v481.toNat
def k0_dev22 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_259 : BitVec 32 := 7#32
  let v490 : BitVec 32 := Scalar.addi v2 c7_i32_259
  let c16_i32_260 : BitVec 32 := 16#32
  let v491 : BitVec 32 := Scalar.remsi v490 c16_i32_260
  let c1_i32_262 : BitVec 32 := 1#32
  let v492 : BitVec 32 := Scalar.muli v491 c1_i32_262
  let v493 : BitVec 32 := Scalar.addi c0_i32_263 v492
  v493.toNat
def k0_dev23 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_268 : BitVec 32 := 8#32
  let v502 : BitVec 32 := Scalar.addi v2 c8_i32_268
  let c16_i32_269 : BitVec 32 := 16#32
  let v503 : BitVec 32 := Scalar.remsi v502 c16_i32_269
  let c1_i32_271 : BitVec 32 := 1#32
  let v504 : BitVec 32 := Scalar.muli v503 c1_i32_271
  let v505 : BitVec 32 := Scalar.addi c0_i32_272 v504
  v505.toNat
def k0_dev24 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_277 : BitVec 32 := 9#32
  let v514 : BitVec 32 := Scalar.addi v2 c9_i32_277
  let c16_i32_278 : BitVec 32 := 16#32
  let v515 : BitVec 32 := Scalar.remsi v514 c16_i32_278
  let c1_i32_280 : BitVec 32 := 1#32
  let v516 : BitVec 32 := Scalar.muli v515 c1_i32_280
  let v517 : BitVec 32 := Scalar.addi c0_i32_281 v516
  v517.toNat
def k0_dev25 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_286 : BitVec 32 := 10#32
  let v526 : BitVec 32 := Scalar.addi v2 c10_i32_286
  let c16_i32_287 : BitVec 32 := 16#32
  let v527 : BitVec 32 := Scalar.remsi v526 c16_i32_287
  let c1_i32_289 : BitVec 32 := 1#32
  let v528 : BitVec 32 := Scalar.muli v527 c1_i32_289
  let v529 : BitVec 32 := Scalar.addi c0_i32_290 v528
  v529.toNat
def k0_dev26 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_295 : BitVec 32 := 11#32
  let v538 : BitVec 32 := Scalar.addi v2 c11_i32_295
  let c16_i32_296 : BitVec 32 := 16#32
  let v539 : BitVec 32 := Scalar.remsi v538 c16_i32_296
  let c1_i32_298 : BitVec 32 := 1#32
  let v540 : BitVec 32 := Scalar.muli v539 c1_i32_298
  let v541 : BitVec 32 := Scalar.addi c0_i32_299 v540
  v541.toNat
def k0_dev27 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_304 : BitVec 32 := 12#32
  let v550 : BitVec 32 := Scalar.addi v2 c12_i32_304
  let c16_i32_305 : BitVec 32 := 16#32
  let v551 : BitVec 32 := Scalar.remsi v550 c16_i32_305
  let c1_i32_307 : BitVec 32 := 1#32
  let v552 : BitVec 32 := Scalar.muli v551 c1_i32_307
  let v553 : BitVec 32 := Scalar.addi c0_i32_308 v552
  v553.toNat
def k0_dev28 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_313 : BitVec 32 := 13#32
  let v562 : BitVec 32 := Scalar.addi v2 c13_i32_313
  let c16_i32_314 : BitVec 32 := 16#32
  let v563 : BitVec 32 := Scalar.remsi v562 c16_i32_314
  let c1_i32_316 : BitVec 32 := 1#32
  let v564 : BitVec 32 := Scalar.muli v563 c1_i32_316
  let v565 : BitVec 32 := Scalar.addi c0_i32_317 v564
  v565.toNat
def k0_dev29 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_322 : BitVec 32 := 14#32
  let v574 : BitVec 32 := Scalar.addi v2 c14_i32_322
  let c16_i32_323 : BitVec 32 := 16#32
  let v575 : BitVec 32 := Scalar.remsi v574 c16_i32_323
  let c1_i32_325 : BitVec 32 := 1#32
  let v576 : BitVec 32 := Scalar.muli v575 c1_i32_325
  let v577 : BitVec 32 := Scalar.addi c0_i32_326 v576
  v577.toNat
def k0_dev30 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_331 : BitVec 32 := 15#32
  let v586 : BitVec 32 := Scalar.addi v2 c15_i32_331
  let c16_i32_332 : BitVec 32 := 16#32
  let v587 : BitVec 32 := Scalar.remsi v586 c16_i32_332
  let c1_i32_334 : BitVec 32 := 1#32
  let v588 : BitVec 32 := Scalar.muli v587 c1_i32_334
  let v589 : BitVec 32 := Scalar.addi c0_i32_335 v588
  v589.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v598 : Index := Scalar.indexCast v2
  let c0_340 : Index := 0#32
  let c0_341 : Index := 0#32
  ![v598.toNat, 0, 0]
def k0_off5 (d0 : Dev nD) (c1_i32_344 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v604 : BitVec 32 := Scalar.addi v2 c1_i32_344
  let c16_i32_345 : BitVec 32 := 16#32
  let v605 : BitVec 32 := Scalar.remsi v604 c16_i32_345
  ![v605.toNat]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x2 : Shape := ⟨2, ![1024, 2]⟩
abbrev S64x512x1024 : Shape := ⟨3, ![64, 512, 1024]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x512x1024 : Shape := ⟨3, ![1024, 512, 1024]⟩
abbrev S1024x1024 : Shape := ⟨2, ![1024, 1024]⟩

abbrev nBuf : Space → Nat
  | .hbm => 87
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x2, .i32⟩
  | .hbm, ⟨3, _⟩ => ⟨S64x512x1024, .f32⟩
  | .hbm, ⟨4, _⟩ => ⟨S1024x64, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x64, .f32⟩
  | .hbm, ⟨15, _⟩ => ⟨S1024x64, .f32⟩
  | .hbm, ⟨16, _⟩ => ⟨S1024, .i32⟩
  | .hbm, ⟨17, _⟩ => ⟨S1024x1, .i32⟩
  | .hbm, ⟨18, _⟩ => ⟨S1024, .i32⟩
  | .hbm, ⟨19, _⟩ => ⟨S1024x1, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S1024, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x1, .i32⟩
  | .hbm, ⟨55, _⟩ => ⟨S1024x2, .i32⟩
  | .hbm, ⟨56, _⟩ => ⟨S1024, .f32⟩
  | .hbm, ⟨57, _⟩ => ⟨S1024, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024x512x1024, .f32⟩
  | .hbm, ⟨67, _⟩ => ⟨S_, .i32⟩
  | .hbm, ⟨68, _⟩ => ⟨S1024, .i32⟩
  | .hbm, ⟨69, _⟩ => ⟨S1024, .i1⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S1024x1, .i32⟩
  | .hbm, ⟨75, _⟩ => ⟨S1024x512x1024, .f32⟩
  | .hbm, ⟨76, _⟩ => ⟨S1024x1024, .f32⟩
  | .hbm, ⟨77, _⟩ => ⟨S1024x1024, .f32⟩
  | .hbm, ⟨78, _⟩ => ⟨S1024, .f32⟩
  | .hbm, ⟨79, _⟩ => ⟨S1024x1, .f32⟩
  | .hbm, ⟨80, _⟩ => ⟨S1024x1024, .f32⟩
  | .hbm, ⟨81, _⟩ => ⟨S1024x1024, .f32⟩
  | .hbm, ⟨82, _⟩ => ⟨S1024, .f32⟩
  | .hbm, ⟨83, _⟩ => ⟨S1024x1, .f32⟩
  | .hbm, ⟨84, _⟩ => ⟨S1024x1024, .f32⟩
  | .hbm, ⟨85, _⟩ => ⟨S1024x1024, .f32⟩
  | .hbm, ⟨86, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_c_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Proto.lean ====
/-
  The exchange of the sixteen devices as a schedule of duties: which device pays which semaphore cell, how much, and what it hands over.

  Every device keeps sixteen slabs it sends (slab `j` for device `j`) and sixteen slots it receives into (slot `s` from device `s`).
  It first signals the fifteen others that its slots are free, waits for their fifteen signals, copies slab `pr o c` to slot `c`
  of device `pr o c` for the fifteen offsets `o`, waits for the fifteen copies that come in, and at the end for its own fifteen.
-/
module

public import proofs.«01_k».proof.Proof.Gen.KernelIdeal.Launch
public import Idealize.ShloMosaic.Lib.Rounds
public import Idealize.ShloMosaic.Lib.Rounds.Family
public import Idealize.ShloMosaic.Lib.Tactic
public import Idealize.ShloMosaic.Lib.Pointwise

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource algebra: the staging's copy of the rounds and the exchange's. -/
abbrev UU : Type := UR sig nD τ × URounds (GSem nD τ sig) (Dev nD)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Devices, cells -/

/-- The device `o` places further round the mesh. -/
def pr (o : Fin 16) (c : Dev nD) : Dev nD := ⟨(c.val + o.val) % 16, Nat.mod_lt _ (by decide)⟩

/-- The offset that leads from `c` to `d`. -/
def off (c d : Dev nD) : Fin 16 := ⟨(d.val + 16 - c.val) % 16, Nat.mod_lt _ (by decide)⟩

theorem pr_ne (o : Fin 16) (ho : 0 < o.val) (c : Dev nD) : pr o c ≠ c := by
  intro h; have := congrArg Fin.val h; have hc : c.val < 16 := c.isLt; simp only [pr] at this; omega

theorem pr_off (c d : Dev nD) : pr (off c d) c = d := by
  have hc : c.val < 16 := c.isLt
  have hd : d.val < 16 := d.isLt
  apply Fin.ext; simp only [pr, off]; omega

theorem off_pr (o : Fin 16) (c : Dev nD) : off c (pr o c) = o := by
  have hc : c.val < 16 := c.isLt
  apply Fin.ext; simp only [pr, off]; omega

/-- The offsets and the devices are the same sixteen things, counted from `c`. -/
def around (c : Dev nD) : Fin 16 ≃ Dev nD := ⟨fun o => pr o c, off c, fun o => off_pr o c, pr_off c⟩

abbrev barS : Sem sig := (SemArray.scalar (sig.barrier 0 rfl) : Sems sig S_).sem
abbrev sendS (o : Fin 16) : DmaSem sig := ⟨8 + o.val, by have := o.isLt; show 8 + o.val < 40; omega⟩
abbrev recvS (s : Fin 16) : DmaSem sig := ⟨24 + s.val, by have := s.isLt; show 24 + s.val < 40; omega⟩

abbrev barCell (c : Dev nD) : GSem nD τ sig := ((c : Thread nD τ), .reg barS)
abbrev sendCell (c : Dev nD) (o : Fin 16) : GSem nD τ sig := ((c : Thread nD τ), .dma (sendS o))
abbrev recvCell (c : Dev nD) (s : Fin 16) : GSem nD τ sig := ((c : Thread nD τ), .dma (recvS s))

/-! ## Slabs -/

theorem slab_inb (j : Fin 16) : ∀ a, (![j.val, 0, 0] : Fin 3 → ℕ) a + S1x25x1024.size a ≤ S16x25x1024.size a := by
  revert j; decide

/-- Slab `j` of a buffer of sixteen slabs. -/
abbrev slab (b : Memref sig .tc .vmem S16x25x1024 .bf16) (j : Fin 16) : Memref sig .tc .vmem S25x1024 .bf16 :=
  (b.slice (Rect.unit (s := S16x25x1024) ![j.val, 0, 0] S1x25x1024.size (slab_inb j)) (fun _ => rfl)).squeeze S25x1024 squeezes_S1x25x1024_S25x1024

abbrev outM : Memref sig .tc .vmem S16x25x1024 .bf16 := Memref.whole cc0_scratch0
abbrev inM : Memref sig .tc .vmem S16x25x1024 .bf16 := Memref.whole cc0_scratch1

/-- A slab written by its offsets, whatever evidence it carries. -/
theorem slab_of (b : Memref sig .tc .vmem S16x25x1024 .bf16) (j : Fin 16) {o : Fin 3 → ℕ} (h : o = ![j.val, 0, 0])
    (inb : ∀ a, o a + S1x25x1024.size a ≤ S16x25x1024.size a) :
    (b.slice (Rect.unit (s := S16x25x1024) o S1x25x1024.size inb) (fun _ => rfl)).squeeze S25x1024 squeezes_S1x25x1024_S25x1024 = slab b j := by
  subst h; rfl

/-- What one slab's copy pays a semaphore. -/
abbrev N : ℕ := (slab outM 0).view.dmaCredit

theorem slab_credit_out (j : Fin 16) : (slab outM j).view.dmaCredit = N := rfl
theorem slab_credit_in (j : Fin 16) : (slab inM j).view.dmaCredit = N := rfl
theorem N_pos : 0 < N := View.dmaCredit_pos _ (by decide)

/-- The contents of a buffer of sixteen slabs. -/
abbrev Slabs (F : FTy → Type) : Type := S16x25x1024.Idx → Elt F .bf16

/-- The elements of slab `j`. -/
def inSlab (j : Fin 16) : Finset S16x25x1024.Idx := Finset.univ.filter fun i => (i 0).val = j.val

theorem slab_set_out (j : Fin 16) : (slab outM j).view.set = inSlab j := by
  show (((View.whole cc0_scratch0).slice _).reshape S25x1024 _).set = _
  rw [View.set_reshape, View.set_slice_whole]
  ext i
  rw [Rect.mem_set_unit]
  simp only [inSlab, Finset.mem_filter, Finset.mem_univ, true_and]
  constructor
  · intro h; have h0 := h 0; simp at h0; omega
  · intro h a; fin_cases a
    · simp [h]
    · have h1 : (i 1).val < 25 := (i 1).isLt; simp; exact h1
    · have h2 : (i 2).val < 1024 := (i 2).isLt; simp; exact h2

theorem slab_set_in (j : Fin 16) : (slab inM j).view.set = inSlab j := by
  show (((View.whole cc0_scratch1).slice _).reshape S25x1024 _).set = _
  rw [View.set_reshape, View.set_slice_whole]
  exact (View.set_slice_whole (κ := .tc) cc0_scratch0 _).symm.trans ((View.set_reshape (v := (View.whole (κ := .tc) cc0_scratch0).slice _) _).symm.trans (slab_set_out j))

theorem slabs_disjoint (j j' : Fin 16) (h : j ≠ j') : Disjoint (inSlab j) (inSlab j') := by
  rw [Finset.disjoint_left]
  intro i hi hi'
  simp only [inSlab, Finset.mem_filter, Finset.mem_univ, true_and] at hi hi'
  exact h (Fin.ext (hi.symm.trans hi'))

/-- Device `c`'s slab `j` to send, holding what `f` says there. -/
abbrev outPts (c : Dev nD) (j : Fin 16) (f : Slabs F) : sProp 𝕄 :=
  (slab outM j).view.loc (c : Thread nD τ) ↦[(slab outM j).view.set]{fullShare} f
/-- Device `c`'s slot `j`, holding what `f` says there. -/
abbrev inPts (c : Dev nD) (j : Fin 16) (f : Slabs F) : sProp 𝕄 :=
  (slab inM j).view.loc (c : Thread nD τ) ↦[(slab inM j).view.set]{fullShare} f

abbrev outWhole (c : Dev nD) (f : Slabs F) : sProp 𝕄 := outM.view.loc (c : Thread nD τ) ↦{fullShare} f
abbrev inWhole (c : Dev nD) (f : Slabs F) : sProp 𝕄 := inM.view.loc (c : Thread nD τ) ↦{fullShare} f

/-- A buffer is held whole exactly when it is held in parts that are disjoint and miss nothing. -/
theorem pts_parts {ℓ : Loc nD τ sig} (K : Fin 16 → Finset (Idx ℓ)) (hd : ∀ j j', j ≠ j' → Disjoint (K j) (K j')) (hc : ∀ i, ∃ j, i ∈ K j)
    (q : PosShare TreeShare) (f : Buf (Elt F) ℓ) : (ℓ ↦{q} f : sProp 𝕄) = bigSep Finset.univ fun j => ℓ ↦[K j]{q} f := by
  classical
  have e : (Finset.univ : Finset (Fin 16)).biUnion K = Finset.univ := by
    ext i; exact ⟨fun _ => Finset.mem_univ _, fun _ => Finset.mem_biUnion.mpr ((hc i).imp fun _ h => ⟨Finset.mem_univ _, h⟩)⟩
  rw [← pointsTo_biUnion Finset.univ K fun j _ j' _ h => hd j j' h]
  exact congrArg (fun S => (ℓ ↦[S]{q} f : sProp 𝕄)) (e.symm.trans (by congr))

theorem mem_slab (i : S16x25x1024.Idx) : i ∈ inSlab ⟨(i 0).val, (i 0).isLt⟩ := Finset.mem_filter.mpr ⟨Finset.mem_univ _, rfl⟩

/-- A whole buffer of slabs is its sixteen slabs. -/
theorem outWhole_eq (c : Dev nD) (f : Slabs F) : (outWhole c f : sProp 𝕄) = bigSep Finset.univ fun j => outPts c j f :=
  pts_parts (ℓ := outM.view.loc (c : Thread nD τ)) (fun j => (slab outM j).view.set)
    (fun j j' h => by rw [slab_set_out, slab_set_out]; exact slabs_disjoint j j' h)
    (fun i => ⟨⟨(i 0).val, (i 0).isLt⟩, by rw [slab_set_out]; exact mem_slab i⟩) fullShare f
theorem inWhole_eq (c : Dev nD) (f : Slabs F) : (inWhole c f : sProp 𝕄) = bigSep Finset.univ fun j => inPts c j f :=
  pts_parts (ℓ := inM.view.loc (c : Thread nD τ)) (fun j => (slab inM j).view.set)
    (fun j j' h => by rw [slab_set_in, slab_set_in]; exact slabs_disjoint j j' h)
    (fun i => ⟨⟨(i 0).val, (i 0).isLt⟩, by rw [slab_set_in]; exact mem_slab i⟩) fullShare f

/-- A slot's contents matter only inside the slot. -/
theorem inPts_congr (c : Dev nD) (j : Fin 16) (f g : Slabs F) (h : ∀ i : S16x25x1024.Idx, (i 0).val = j.val → f i = g i) :
    (inPts c j f : sProp 𝕄) = inPts c j g := by
  unfold inPts; rw [slab_set_in]
  exact pointsTo_congr fun i hi => h i (Finset.mem_filter.mp hi).2

/-- What device `d` has received once everything has come in: in slot `s`, slab `d` of device `s`. -/
def got (SB : Dev nD → Slabs F) (d : Dev nD) : Slabs F := fun i => SB ⟨(i 0).val, (i 0).isLt⟩ (ix3 ⟨d.val, d.isLt⟩ (i 1) (i 2))

theorem rect_row (j : Fin 16) (a : Fin 25) (b : Fin 1024) :
    (Rect.unit (s := S16x25x1024) ![j.val, 0, 0] S1x25x1024.size (slab_inb j)).emb (Shape.reshapeEquiv squeezes_S1x25x1024_S25x1024.numel_eq (ix2 a b))
      = ix3 j a b := by
  have e : Shape.reshapeEquiv squeezes_S1x25x1024_S25x1024.numel_eq (ix2 a b : S25x1024.Idx) = (ix3 0 a b : S1x25x1024.Idx) := by
    pointwise
  rw [e]
  funext x; apply Fin.ext; fin_cases x
  · show j.val + 1 * 0 = j.val; omega
  · show 0 + 1 * a.val = a.val; omega
  · show 0 + 1 * b.val = b.val; omega

/-- Entry `(a, b)` of slab `j` is entry `(j, a, b)` of the buffer. -/
theorem emb_in (j : Fin 16) (a : Fin 25) (b : Fin 1024) : (slab inM j).view.emb (ix2 a b) = (ix3 j a b : S16x25x1024.Idx) := rect_row j a b
theorem emb_out (j : Fin 16) (a : Fin 25) (b : Fin 1024) : (slab outM j).view.emb (ix2 a b) = (ix3 j a b : S16x25x1024.Idx) := rect_row j a b

/-- A copy of device `s`'s slab `d`, landed in slot `s` of device `d`, leaves there what `got` says. -/
theorem landed (SB : Dev nD → Slabs F) (s d : Dev nD) (fd : Slabs F) (i : S16x25x1024.Idx) (hi : (i 0).val = s.val) :
    (slab inM s).view.write (Elt F) fd ((slab outM d).view.read (Elt F) (SB s)) Finset.univ i = got SB d i := by
  obtain ⟨a, b, rfl⟩ : ∃ (a : Fin 25) (b : Fin 1024), i = (ix3 s a b : S16x25x1024.Idx) :=
    ⟨i 1, i 2, funext fun x => Fin.ext (by fin_cases x; exacts [hi, rfl, rfl])⟩
  conv_lhs => rw [← emb_in s a b]
  rw [View.write_emb_of_mem _ _ (Finset.mem_univ _), View.read_apply, emb_out]
  rfl

/-! ## The schedule -/

variable (SB : Dev nD → Slabs F)

/-- Handed to device `p` with device `d`'s signal: slot `p` of `d`, and that its receive cell for `p` is open. -/
def barPay (p d : Dev nD) : sProp 𝕄 := iprop((∃ f, inPts d p f) ∗ reached ER (recvCell d p) 0)
/-- Handed back to the sender at the end of the copy with offset `o`: the slab sent. -/
def sendPay (c : Dev nD) (o : Fin 16) : sProp 𝕄 := outPts c (pr o c) (SB c)
/-- Handed to device `d` by device `s`'s copy: slot `s`, filled. -/
def recvPay (d s : Dev nD) : sProp 𝕄 := inPts d s (got SB d)

/-- Which of the sixteen a DMA semaphore number is, counted from `b`. -/
abbrev nth (b : ℕ) (i : DmaSem sig) : Fin 16 := ⟨(i.val - b) % 16, Nat.mod_lt _ (by decide)⟩

/-- Round 0, the only one with duties. Barrier cell of `p`: one duty for every other device. Send cell `o ≠ 0` and receive cell
    `s ≠ d`: one duty, the copy's. -/
def talkRd : Rounds.Schedule (GSem nD τ sig) (Dev nD) 𝕄 where
  duties g r := if r = 0 ∧ g.1.2 = .tc then
      match g.2 with
      | .reg _ => Finset.univ.erase g.1.1
      | .dma i => if 24 ≤ i.val then (if nth 24 i = g.1.1 then ∅ else {0})
          else if 8 ≤ i.val then (if nth 8 i = 0 then ∅ else {0}) else ∅
    else ∅
  unitless _ := False
  amount g _ _ := match g.2 with
    | .reg _ => 1
    | .dma _ => N
  payload g _ d := match g.2 with
    | .reg _ => barPay g.1.1 d
    | .dma i => if 24 ≤ i.val then recvPay SB g.1.1 (nth 24 i) else sendPay SB g.1.1 (nth 8 i)
  amount_pos g _ _ _ := by
    split
    · exact Nat.one_pos
    · exact N_pos

instance talkRd_payload_storable (g : GSem nD τ sig) (r : ℕ) (d : Dev nD) :
    BI.Storable (upEmb : UEmb _ 𝕄) ((talkRd (F := F) SB).payload g r d) := by
  show BI.Storable upEmb (match g.2 with
    | .reg _ => barPay g.1.1 d
    | .dma i => if 24 ≤ i.val then recvPay SB g.1.1 (nth 24 i) else sendPay SB g.1.1 (nth 8 i))
  unfold barPay recvPay sendPay
  (repeat' split) <;> infer_instance

section Sched

variable (c : Dev nD)

theorem nth_send (o : Fin 16) : nth 8 (sendS o) = o := by
  apply Fin.ext; have := o.isLt; show (8 + o.val - 8) % 16 = o.val; omega
theorem nth_recv (s : Fin 16) : nth 24 (recvS s) = s := by
  apply Fin.ext; have := s.isLt; show (24 + s.val - 24) % 16 = s.val; omega
theorem send_small (o : Fin 16) : ¬ 24 ≤ (sendS o).val := by have := o.isLt; show ¬ 24 ≤ 8 + o.val; omega
theorem send_large (o : Fin 16) : 8 ≤ (sendS o).val := Nat.le_add_right _ _
theorem recv_large (s : Fin 16) : 24 ≤ (recvS s).val := Nat.le_add_right _ _

theorem duties_bar : (talkRd (F := F) SB).duties (barCell c) 0 = Finset.univ.erase c := by
  dsimp only [talkRd]; exact if_pos ⟨rfl, rfl⟩
theorem duties_send (o : Fin 16) : (talkRd (F := F) SB).duties (sendCell c o) 0 = if o = 0 then ∅ else {0} := by
  dsimp only [talkRd]; rw [if_pos ⟨rfl, rfl⟩, if_neg (send_small o), if_pos (send_large o), nth_send]
theorem duties_recv (s : Fin 16) : (talkRd (F := F) SB).duties (recvCell c s) 0 = if s = c then ∅ else {0} := by
  dsimp only [talkRd]; rw [if_pos ⟨rfl, rfl⟩, if_pos (recv_large s), nth_recv]
theorem duties_later (g : GSem nD τ sig) : ∀ r, 1 ≤ r → (talkRd (F := F) SB).duties g r = ∅ :=
  fun r hr => by dsimp only [talkRd]; rw [if_neg (fun h => by omega)]

theorem amount_bar (d : Dev nD) : (talkRd (F := F) SB).amount (barCell c) 0 d = 1 := rfl
theorem amount_send (o : Fin 16) (d : Dev nD) : (talkRd (F := F) SB).amount (sendCell c o) 0 d = N := rfl
theorem amount_recv (s : Fin 16) (d : Dev nD) : (talkRd (F := F) SB).amount (recvCell c s) 0 d = N := rfl

theorem payload_bar (d : Dev nD) : (talkRd (F := F) SB).payload (barCell c) 0 d = barPay c d := rfl
theorem payload_send (o : Fin 16) (d : Dev nD) : (talkRd (F := F) SB).payload (sendCell c o) 0 d = sendPay SB c o := by
  dsimp only [talkRd]; rw [if_neg (send_small o), nth_send]
theorem payload_recv (s : Fin 16) (d : Dev nD) : (talkRd (F := F) SB).payload (recvCell c s) 0 d = recvPay SB c s := by
  dsimp only [talkRd]; rw [if_pos (recv_large s), nth_recv]

theorem expect_bar : (talkRd (F := F) SB).expect (barCell c) 0 = 15 := by
  unfold Schedule.expect Schedule.amountOf
  rw [duties_bar, Finset.sum_congr rfl (fun d _ => amount_bar SB c d), Finset.sum_const, Finset.card_erase_of_mem (Finset.mem_univ _)]
  simp [nD]
theorem expect_send (o : Fin 16) (ho : o ≠ 0) : (talkRd (F := F) SB).expect (sendCell c o) 0 = N := by
  unfold Schedule.expect Schedule.amountOf; rw [duties_send, if_neg ho, Finset.sum_singleton, amount_send]
theorem expect_recv (s : Fin 16) (hs : s ≠ c) : (talkRd (F := F) SB).expect (recvCell c s) 0 = N := by
  unfold Schedule.expect Schedule.amountOf; rw [duties_recv, if_neg hs, Finset.sum_singleton, amount_recv]

theorem rest_bar : bigSep ((talkRd (F := F) SB).duties (barCell c) 0 \ ∅) (fun d => (talkRd (F := F) SB).payload (barCell c) 0 d)
    = bigSep (Finset.univ.erase c) (fun d => barPay c d) := by
  rw [Finset.sdiff_empty, duties_bar]; rfl
theorem rest_send (o : Fin 16) (ho : o ≠ 0) :
    bigSep ((talkRd (F := F) SB).duties (sendCell c o) 0 \ ∅) (fun d => (talkRd (F := F) SB).payload (sendCell c o) 0 d) = sendPay SB c o := by
  rw [Finset.sdiff_empty, duties_send, if_neg ho, bigSep_singleton, payload_send]
theorem rest_recv (s : Fin 16) (hs : s ≠ c) :
    bigSep ((talkRd (F := F) SB).duties (recvCell c s) 0 \ ∅) (fun d => (talkRd (F := F) SB).payload (recvCell c s) 0 d) = recvPay SB c s := by
  rw [Finset.sdiff_empty, duties_recv, if_neg hs, bigSep_singleton, payload_recv]

end Sched

end Cert.Moe
-- ==== Proof.Vals.lean ====
/-
  What one device computes, as values: from the arrays staged for it, the sixteen slabs it sends; from the slabs it was sent, its
  rows of the result.
-/
module

public import proofs.«01_k».proof.Proof.Proto
public import proofs.«01_k».proof.Proof.Gen.KernelIdeal.Skeleton

@[expose] public section

noncomputable section

namespace Cert.Moe

open Cert.KernelIdeal Cert.KernelIdeal.Facts₀ Cert.KernelIdeal.Facts
open Idealize.ShloMosaic Idealize.ShloMosaic.TcCoe
open Cert.KernelIdeal.Gen (k0_pay1 k0_pay2 k0_pay3 k0_pay4 k0_pay5 k0_pay6 k0_pay7 k0_pay9 k0_pay10 k0_pay11 k0_pay12 k0_pay13 k0_pay59 k0_pay63 k0_pay85)

variable {F : FTy → Type} [FloatOps F]

/-- The arrays staged for one device: the tokens, the router's weights, the two experts of every token, the device's four experts,
    and three constant tables (a triangle of ones, a mask of chunks, slot numbers). -/
structure Ins (F : FTy → Type) where
  x : Vec F S1024x512 .f32
  rw : Vec F S512x64 .f32
  ix : Vec F S1024x2 .i32
  w : Vec F S4x512x1024 .bf16
  tri : Vec F S1024x1024 .bf16
  tm : Vec F S384x1024 .bf16
  sr : Vec F S384x1024 .f32

/-- The device's number along the mesh, as the program computes it. -/
abbrev mine (c : Dev nD) : BitVec 32 := Scalar.remsi (Scalar.divsi (Dev.word c) 1#32) 16#32

namespace Ins
variable (I : Ins F) (c : Dev nD)

/-! ### What the loads read -/

def lX : Vec F S1024x512 .f32 :=
  (Memref.whole cc0_stg0_0).view.readAt (Elt F) (Rect.unit (s := S1024x512) ![0, 0] S1024x512.size inb_S1024x512_S1024x512_0_0).toLoadRect I.x
def lRW : Vec F S512x64 .f32 :=
  (Memref.whole cc0_stg1_0).view.readAt (Elt F) (Rect.unit (s := S512x64) ![0, 0] S512x64.size inb_S512x64_S512x64_0_0).toLoadRect I.rw
def lE0 : Vec F S1024x1 .i32 :=
  (Memref.whole cc0_stg2_0).view.readAt (Elt F) (Rect.unit (s := S1024x2) ![0, 0] S1024x1.size inb_S1024x2_S1024x1_0_0).toLoadRect I.ix
def lE1 : Vec F S1024x1 .i32 :=
  (Memref.whole cc0_stg2_0).view.readAt (Elt F) (Rect.unit (s := S1024x2) ![0, 1] S1024x1.size inb_S1024x2_S1024x1_0_1).toLoadRect I.ix
theorem w_inb (j : Fin 4) : ∀ a, (![j.val, 0, 0] : Fin 3 → ℕ) a + S1x512x1024.size a ≤ S4x512x1024.size a := by revert j; decide
def lW (j : Fin 4) : Vec F S1x512x1024 .bf16 :=
  (Memref.whole cc0_stg3_0).view.readAt (Elt F) (Rect.unit (s := S4x512x1024) ![j.val, 0, 0] S1x512x1024.size (w_inb j)).toLoadRect I.w
def lTri : Vec F S1024x1024 .bf16 :=
  (Memref.whole cc0_stg4_0).view.readAt (Elt F) (Rect.unit (s := S1024x1024) ![0, 0] S1024x1024.size inb_S1024x1024_S1024x1024_0_0).toLoadRect I.tri
def lTm : Vec F S384x1024 .bf16 :=
  (Memref.whole cc0_stg5_0).view.readAt (Elt F) (Rect.unit (s := S384x1024) ![0, 0] S384x1024.size inb_S384x1024_S384x1024_0_0).toLoadRect I.tm
def lSr : Vec F S384x1024 .f32 :=
  (Memref.whole cc0_stg6_0).view.readAt (Elt F) (Rect.unit (s := S384x1024) ![0, 0] S384x1024.size inb_S384x1024_S384x1024_0_0).toLoadRect I.sr

/-! ### What is computed of them -/

/-- Exponentials of the scores below their row's largest. -/
def ex : FVec F S1024x64 .f32 := k0_pay2 I.lX I.lRW
/-- Their sums, in every column. -/
def sm : FVec F S1024x64 .f32 := k0_pay3 I.lX I.lRW
/-- The gates of the device's four experts. -/
def gate : FVec F S1024x4 .f32 := k0_pay4 (mine c) I.ex I.sm I.lE0 I.lE1
/-- Whether a token has a gate here. -/
def hit : IVec S1024x1 32 := k0_pay5 (mine c) I.ex I.sm I.lE0 I.lE1
/-- The same as a row of zeros and ones. -/
def hitRow : FVec F S1x1024 .f32 := k0_pay6 (F := F) (I.hit c)
/-- How many tokens of the same chunk, up to and with this one, have a gate here. -/
def rank : FVec F S1x1024 .f32 := k0_pay7 (I.hit c) I.lTri
/-- The chosen tokens, chunk by chunk, twenty-four places each. -/
def picked : FVec F S384x512 .f32 := k0_pay9 (k0_pay1 I.lX) (I.hit c) I.lTri I.lSr I.lTm
/-- Their gates. -/
def pickedGate : FVec F S384x4 .f32 := k0_pay10 (I.gate c) (I.hit c) I.lTri I.lSr I.lTm
/-- The first two experts' share of the chosen tokens' results. -/
def firstTwo : FVec F S384x1024 .f32 := k0_pay11 (k0_pay1 I.lX) (I.gate c) (I.hit c) I.lTri I.lSr I.lTm (I.lW 0) (I.lW 1)
def gate2 : FVec F S384x1 .f32 := k0_pay12 (I.gate c) (I.hit c) I.lTri I.lSr I.lTm
/-- All four experts' share of the chosen tokens' results. -/
def part : FVec F S384x1024 .f32 := k0_pay13 (I.picked c) (I.pickedGate c) (I.firstTwo c) (I.gate2 c) (I.lW 2) (I.lW 3)

end Ins

theorem pack_rows (j : Fin 16) : S384x1024.Slices ![24 * j.val, 0] S24x1024 := by revert j; decide
theorem pack_lanes (j : Fin 16) : S1x1024.Slices ![0, 64 * j.val] S1x64 := by revert j; decide

/-- A slab before it is rounded: a chunk's twenty-four rows of results, then one row of the chunk's ranks, its hits, and zeros. -/
def pack25 (h r : FVec F S1x1024 .f32) (y : FVec F S384x1024 .f32) (j : Fin 16) : FVec F S25x1024 .f32 :=
  concatenate S25x1024 0
    [⟨S24x1024, extractStridedSlice S24x1024 ![24 * j.val, 0] y (pack_rows j)⟩,
     ⟨S1x1024, concatenate S1x1024 1
        [⟨S1x64, extractStridedSlice S1x64 ![0, 64 * j.val] r (pack_lanes j)⟩,
         ⟨S1x64, extractStridedSlice S1x64 ![0, 64 * j.val] h (pack_lanes j)⟩,
         ⟨S1x896, broadcast S1x896 (Scalar.ofBits .f32 0x00000000#32)⟩] concatenates_S1x64_S1x64_S1x896_S1x1024_d1⟩]
    concatenates_S24x1024_S1x1024_S25x1024_d0

/-- A slab as it is stored. -/
def pack (h r : FVec F S1x1024 .f32) (y : FVec F S384x1024 .f32) (j : Fin 16) : FVec F S1x25x1024 .bf16 :=
  shapeCast S1x25x1024 (truncf .bf16 (pack25 h r y j) bitsLt_bf16_f32) shapeCasts_S25x1024_S1x25x1024

/-- The sixteen slabs device `c` sends. -/
def Ins.slabs (I : Ins F) (c : Dev nD) : Slabs F := fun i => pack (I.hitRow c) (I.rank c) (I.part c) ⟨(i 0).val, (i 0).isLt⟩ (ix3 0 (i 1) (i 2))

/-! ### From the slabs received to the result -/

variable (g : Slabs F)

theorem row_inb (s : Fin 16) : ∀ a, (![s.val, 24, 0] : Fin 3 → ℕ) a + S1x1x64.size a ≤ S16x25x1024.size a := by revert s; decide
theorem hit_inb (s : Fin 16) : ∀ a, (![s.val, 24, 64] : Fin 3 → ℕ) a + S1x1x64.size a ≤ S16x25x1024.size a := by revert s; decide
theorem blk_inb (s : Fin 16) : ∀ a, (![s.val, 0, 0] : Fin 3 → ℕ) a + S1x24x1024.size a ≤ S16x25x1024.size a := by revert s; decide

/-- The ranks sender `s` sent. -/
def rdRank (s : Fin 16) : Vec F S1x1x64 .bf16 :=
  inM.view.readAt (Elt F) (Rect.unit (s := S16x25x1024) ![s.val, 24, 0] S1x1x64.size (row_inb s)).toLoadRect g
/-- The hits sender `s` sent. -/
def rdHit (s : Fin 16) : Vec F S1x1x64 .bf16 :=
  inM.view.readAt (Elt F) (Rect.unit (s := S16x25x1024) ![s.val, 24, 64] S1x1x64.size (hit_inb s)).toLoadRect g
/-- The rows of results sender `s` sent. -/
def rdBlk (s : Fin 16) : Vec F S1x24x1024 .bf16 :=
  inM.view.readAt (Elt F) (Rect.unit (s := S16x25x1024) ![s.val, 0, 0] S1x24x1024.size (blk_inb s)).toLoadRect g

/-- Which of sender `s`'s rows belongs to which token: ones and zeros. -/
def sel (s : Fin 16) : FVec F S64x24 .bf16 := k0_pay63 k0_pay59 (rdRank g s) (rdHit g s)
/-- Sender `s`'s rows. -/
def blk (s : Fin 16) : FVec F S24x1024 .bf16 := k0_pay85 (rdBlk g s)

/-- All senders' choices, side by side. -/
def sels : FVec F S64x384 .bf16 :=
  concatenate S64x384 1 (List.ofFn fun s : Fin 16 => (⟨S64x24, sel g s⟩ : (s : Shape) × (s.Idx → Elt F .bf16)))
    concatenates_S64x24_S64x24_S64x24_S64x24_S64x24_S64x24_S64x24_S64x24_S64x24_S64x24_S64x24_S64x24_S64x24_S64x24_S64x24_S64x24_S64x384_d1
/-- All senders' rows, one block below the other. -/
def blks : FVec F S384x1024 .bf16 :=
  concatenate S384x1024 0 (List.ofFn fun s : Fin 16 => (⟨S24x1024, blk g s⟩ : (s : Shape) × (s.Idx → Elt F .bf16)))
    concatenates_S24x1024_S24x1024_S24x1024_S24x1024_S24x1024_S24x1024_S24x1024_S24x1024_S24x1024_S24x1024_S24x1024_S24x1024_S24x1024_S24x1024_S24x1024_S24x1024_S384x1024_d0
/-- The device's rows of the result. -/
def outOf : FVec F S64x1024 .f32 := matmul dot_S64x384_S384x1024_S64x1024_1_0_0_1_n_n none (sels g) (blks g) (constant S64x1024 .f32 0x00000000#32)

end Cert.Moe
-- ==== Proof.Steps.lean ====
/-
  One lemma for each kind of operation of the exchange: a signal, the wait for the fifteen signals, a copy to another device, the wait
  for a copy that comes in, the wait for a copy that went out. What a device still has to do, and what it has done, are families over
  the offsets not yet reached and over the offsets passed.
-/
module

public import proofs.«01_k».proof.Proof.Proto
public import proofs.«01_k».proof.Proof.Gen.KernelIdeal.Skeleton

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Offsets not yet reached, offsets passed -/

/-- The offsets past `n`. -/
def ahead (n : ℕ) : Finset (Fin 16) := Finset.univ.filter fun o => n < o.val
/-- The offsets from 1 to `n`. -/
def past (n : ℕ) : Finset (Fin 16) := Finset.univ.filter fun o => 0 < o.val ∧ o.val ≤ n

theorem ahead_step {n n' : ℕ} (e : n + 1 = n') (h : n' < 16) : ahead n = insert ⟨n', h⟩ (ahead n') := by
  ext o; simp only [ahead, Finset.mem_filter, Finset.mem_univ, true_and, Finset.mem_insert, Fin.ext_iff]; omega
theorem not_ahead {n' : ℕ} (h : n' < 16) : (⟨n', h⟩ : Fin 16) ∉ ahead n' := by simp [ahead]
theorem past_step {n n' : ℕ} (e : n + 1 = n') (h : n' < 16) : past n' = insert ⟨n', h⟩ (past n) := by
  ext o; simp only [past, Finset.mem_filter, Finset.mem_univ, true_and, Finset.mem_insert, Fin.ext_iff]; omega
theorem not_past {n n' : ℕ} (e : n + 1 = n') (h : n' < 16) : (⟨n', h⟩ : Fin 16) ∉ past n := by
  simp only [past, Finset.mem_filter, Finset.mem_univ, true_and, not_and]; omega
theorem ahead_end : ahead 15 = ∅ := by decide
theorem past_start : past 0 = ∅ := by decide
theorem ahead_all : ahead 0 = Finset.univ.erase 0 := by decide
theorem past_all : past 15 = Finset.univ.erase 0 := by decide

theorem take {n n' : ℕ} (e : n + 1 = n') (h : n' < 16) (Φ : Fin 16 → sProp 𝕄) :
    (bigSep (ahead n) Φ : sProp 𝕄) ⊢ iprop(Φ ⟨n', h⟩ ∗ bigSep (ahead n') Φ) :=
  Entails.of_eq (by rw [ahead_step e h, bigSep_insert (not_ahead h)]; rfl)
theorem put {n n' : ℕ} (e : n + 1 = n') (h : n' < 16) (Φ : Fin 16 → sProp 𝕄) :
    iprop(Φ ⟨n', h⟩ ∗ bigSep (past n) Φ) ⊢ (bigSep (past n') Φ : sProp 𝕄) :=
  Entails.of_eq (by rw [past_step e h, bigSep_insert (not_past e h)]; rfl)

/-! ## What a device owes -/

/-- The copies' credits past offset `n`. -/
def owR (c : Dev nD) (n : ℕ) : CellTallies nD τ sig Unit := ∑ o ∈ ahead n, tallyAt (recvCell (pr o c) c) () N
/-- The signals past offset `n`, and all the copies. -/
def owS (c : Dev nD) (n : ℕ) : CellTallies nD τ sig Unit := owR c 0 + ∑ o ∈ ahead n, tallyAt (barCell (pr o c)) () 1

theorem owR_step (c : Dev nD) {n n' : ℕ} (e : n + 1 = n') (h : n' < 16) :
    owR c n = owR c n' + tallyAt (recvCell (pr ⟨n', h⟩ c) c) () N := by
  unfold owR; rw [ahead_step e h, Finset.sum_insert (not_ahead h), add_comm]
theorem owS_step (c : Dev nD) {n n' : ℕ} (e : n + 1 = n') (h : n' < 16) :
    owS c n = owS c n' + tallyAt (barCell (pr ⟨n', h⟩ c)) () 1 := by
  unfold owS; rw [ahead_step e h, Finset.sum_insert (not_ahead h), add_assoc, add_comm (tallyAt _ _ _) (∑ _ ∈ _, _)]
theorem owS_end (c : Dev nD) : owS c 15 = owR c 0 := by unfold owS; rw [ahead_end, Finset.sum_empty, add_zero]
theorem owR_end (c : Dev nD) : owR c 15 = 0 := by unfold owR; rw [ahead_end, Finset.sum_empty]

/-- The device owes `O`, whatever waits it has recorded. -/
abbrev ow (c : Dev nD) (O : CellTallies nD τ sig Unit) : sProp 𝕄 := iprop(∃ W, owes (c : Thread nD τ) O W)

def L (g : GSem nD τ sig) : Finset Unit := if g.1.2 = .tc then {()} else ∅
/-- Barrier cells at level 1, receive cells at 2, the rest at 0. -/
def lv (g : GSem nD τ sig) (_ : Unit) : ℕ := match g.2 with
  | .reg _ => 1
  | .dma i => if 24 ≤ i.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem owR_pos {c : Dev nD} {n : ℕ} {g : GSem nD τ sig} {u : Unit} (h : 0 < owR c n g u) : ∃ o, g = recvCell (pr o c) c := by
  unfold owR at h
  rw [Finset.sum_apply, Finsupp.finset_sum_apply] at h
  obtain ⟨o, -, ho⟩ := Finset.exists_ne_zero_of_sum_ne_zero h.ne'
  rw [tallyAt_apply] at ho
  refine ⟨o, ?_⟩
  by_contra hne
  exact ho (if_neg fun hh => hne hh.1)

theorem owS_pos {c : Dev nD} {n : ℕ} {g : GSem nD τ sig} {u : Unit} (h : 0 < owS c n g u) :
    (∃ o, g = recvCell (pr o c) c) ∨ ∃ o, g = barCell (pr o c) := by
  unfold owS at h
  rw [Pi.add_apply, Finsupp.add_apply] at h
  rcases Nat.add_pos_iff_pos_or_pos.mp h with h | h
  · exact .inl (owR_pos h)
  · rw [Finset.sum_apply, Finsupp.finset_sum_apply] at h
    obtain ⟨o, -, ho⟩ := Finset.exists_ne_zero_of_sum_ne_zero h.ne'
    rw [tallyAt_apply] at ho
    refine .inr ⟨o, ?_⟩
    by_contra hne
    exact ho (if_neg fun hh => hne hh.1)

theorem lv_bar (c : Dev nD) : lv (barCell c) () = 1 := rfl
theorem lv_recv (c : Dev nD) (s : Fin 16) : lv (recvCell c s) () = 2 := by dsimp only [lv]; rw [if_pos (recv_large s)]

theorem mayWait_bar (c : Dev nD) : (levAts L lv : sProp 𝕄) ⊢ MayWait (c : Thread nD τ) (.reg barS) () (owR c 0) :=
  MayOwe.of_cut (L := L) (lev := lv) 1 (fun p hp => by rw [Finset.mem_singleton.mp hp, L_tc]; exact Finset.mem_singleton_self _)
    (fun g u hg => by obtain ⟨o, rfl⟩ := owR_pos hg; rw [L_tc]; exact Finset.mem_singleton_self _)
    (fun p hp => by rw [Finset.mem_singleton.mp hp]; exact le_of_eq (lv_bar c))
    (fun g u hg => by obtain ⟨o, rfl⟩ := owR_pos hg; rw [lv_recv]; decide)

/-! ## What every device may use -/

variable (SB : Dev nD → Slabs F)

/-- The invariants of all cells, under the names `K` of the launch, and that every barrier cell is open. -/
def invs (K : GSem nD τ sig → ℕ) : sProp 𝕄 :=
  iprop((bigSep Finset.univ fun p : Dev nD => iprop(cellInv ER (talkRd SB) (K (barCell p)) (barCell p) ∗ reached ER (barCell p) 0))
    ∗ (bigSep Finset.univ fun x : Dev nD × Fin 16 => cellInv ER (talkRd SB) (K (sendCell x.1 x.2)) (sendCell x.1 x.2))
    ∗ (bigSep Finset.univ fun x : Dev nD × Fin 16 => cellInv ER (talkRd SB) (K (recvCell x.1 x.2)) (recvCell x.1 x.2)))

instance invs_persistent (K : GSem nD τ sig → ℕ) : BI.Persistent (invs SB K) := by unfold invs; infer_instance

theorem inv_bar (K : GSem nD τ sig → ℕ) (p : Dev nD) :
    (invs SB K : sProp 𝕄) ⊢ iprop(cellInv ER (talkRd SB) (K (barCell p)) (barCell p) ∗ reached ER (barCell p) 0) := by
  have key := bigSep_elim (s := Finset.univ) (Finset.mem_univ p)
    (Φ := fun p : Dev nD => (iprop(cellInv ER (talkRd SB) (K (barCell p)) (barCell p) ∗ reached ER (barCell p) 0) : sProp 𝕄))
  exact (show (invs SB K : sProp 𝕄) ⊢ _ by unfold invs; iintro ⟨H, -, -⟩; iexact H).trans key
theorem inv_send (K : GSem nD τ sig → ℕ) (c : Dev nD) (o : Fin 16) :
    (invs SB K : sProp 𝕄) ⊢ cellInv ER (talkRd SB) (K (sendCell c o)) (sendCell c o) := by
  have key := bigSep_elim (s := Finset.univ) (Finset.mem_univ (c, o))
    (Φ := fun x : Dev nD × Fin 16 => (cellInv ER (talkRd SB) (K (sendCell x.1 x.2)) (sendCell x.1 x.2) : sProp 𝕄))
  exact (show (invs SB K : sProp 𝕄) ⊢ _ by unfold invs; iintro ⟨-, H, -⟩; iexact H).trans key
theorem inv_recv (K : GSem nD τ sig → ℕ) (c : Dev nD) (s : Fin 16) :
    (invs SB K : sProp 𝕄) ⊢ cellInv ER (talkRd SB) (K (recvCell c s)) (recvCell c s) := by
  have key := bigSep_elim (s := Finset.univ) (Finset.mem_univ (c, s))
    (Φ := fun x : Dev nD × Fin 16 => (cellInv ER (talkRd SB) (K (recvCell x.1 x.2)) (recvCell x.1 x.2) : sProp 𝕄))
  exact (show (invs SB K : sProp 𝕄) ⊢ _ by unfold invs; iintro ⟨-, -, H⟩; iexact H).trans key

/-! ## The steps -/

local notation "𝕎" => wp frame (wpE (defs₀ (F := F)) 𝒱₀ · none) Set.univ

/-- What the signal with offset `o` spends. -/
def sigRes (c : Dev nD) (o : Fin 16) : sProp 𝕄 :=
  iprop(dutyTok ER (barCell (pr o c)) 0 c ∗ (∃ f, inPts c (pr o c) f) ∗ reached ER (recvCell c (pr o c)) 0)
/-- What the copy with offset `o` spends. -/
def sendRes (c : Dev nD) (o : Fin 16) : sProp 𝕄 :=
  iprop(outPts c (pr o c) (SB c) ∗ barPay c (pr o c) ∗ dutyTok ER (sendCell c o) 0 0 ∗ reached ER (sendCell c o) 0
    ∗ dutyTok ER (recvCell (pr o c) c) 0 0)
/-- What the wait for the copy from `pr o c` spends, and what it gives. -/
def recvRes (c : Dev nD) (o : Fin 16) : sProp 𝕄 :=
  iprop(cred (tallyAt (recvCell c (pr o c)) () N) ∗ atPos ER (recvCell c (pr o c)) 0 ∅ 0)
def recvDone (c : Dev nD) (o : Fin 16) : sProp 𝕄 :=
  iprop(inPts c (pr o c) (got SB c) ∗ atPos ER (recvCell c (pr o c)) 1 ∅ 0)
/-- What the wait for the end of the copy with offset `o` spends, and what it gives. -/
def sentRes (c : Dev nD) (o : Fin 16) : sProp 𝕄 := cred (tallyAt (sendCell c o) () N)
def sentPos (c : Dev nD) (o : Fin 16) : sProp 𝕄 := atPos ER (sendCell c o) 0 ∅ 0
def sentDone (c : Dev nD) (o : Fin 16) : sProp 𝕄 :=
  iprop(outPts c (pr o c) (SB c) ∗ atPos ER (sendCell c o) 1 ∅ 0)

theorem recvPay_eq (d s : Dev nD) : (recvPay SB d s : sProp 𝕄) = inPts d s (got SB d) := by unfold recvPay; rfl
theorem sendPay_eq (c : Dev nD) (o : Fin 16) : (sendPay SB c o : sProp 𝕄) = outPts c (pr o c) (SB c) := by unfold sendPay; rfl

theorem sig_step (K : GSem nD τ sig → ℕ) (c : Dev nD) (n n' : ℕ) (e : n + 1 = n') (h : n' < 16) {p : Dev nD} (hp : p = pr ⟨n', h⟩ c)
    (Q : PUnit → sProp 𝕄) :
    iprop(invs SB K ∗ bigSep (ahead n) (sigRes c) ∗ ow c (owS c n) ∗ ((bigSep (ahead n') (sigRes c) ∗ ow c (owS c n')) -∗ Q ⟨⟩))
      ⊢ wp frame (wpE (defs₀ (F := F)) 𝒱₀ c none) Set.univ (semSignalWord p barS 1#32) Q := by
  subst hp
  show _ ⊢ wp frame (wpE (defs₀ (F := F)) 𝒱₀ c none) Set.univ (.op (.semSignal (Dev.tc (pr ⟨n', h⟩ c)) barS ((1 : ℕ) : ℤ)) .ret) Q
  iintro ⟨#Hinv, Hs, ⟨%W, HO⟩, Hk⟩
  ihave Hs' := (take e h (sigRes c)) $$ Hs
  unfold sigRes
  icases Hs' with ⟨⟨Ht, Hf, Hr⟩, Hs⟩
  ihave Hi := (inv_bar SB K (pr ⟨n', h⟩ c)) $$ Hinv
  icases Hi with ⟨#Hi, #Hrb⟩
  iapply (Rounds.wp_signal 𝒱₀ ER (talkRd SB) (c : Thread nD τ) none (dst := (pr ⟨n', h⟩ c : Thread nD τ)) (sem := barS) (r := 0) (d := c)
      (κ := K (barCell (pr ⟨n', h⟩ c)))
      (by rw [duties_bar]; exact Finset.mem_erase.mpr ⟨(pr_ne _ (by show 0 < n'; omega) c).symm, Finset.mem_univ _⟩)
      (amount_bar SB (pr ⟨n', h⟩ c) c) () (owS c n') (owS_step c e h)) $$ [HO Ht Hf Hr]
  · isplitr; · iexact Hi
    isplitl [HO]; · iexact HO
    isplitl [Ht]; · iexact Ht
    isplitl [Hf Hr]
    · rw [payload_bar]; unfold barPay
      isplitl [Hf]; · iexact Hf
      iexact Hr
    · iexact Hrb
  iintro HO
  rw [wp_ret]
  imodintro
  iapply Hk
  isplitl [Hs]; · iexact Hs
  iexists W; iexact HO

theorem bar_wait (K : GSem nD τ sig → ℕ) (c : Dev nD) (Q : PUnit → sProp 𝕄) :
    iprop(invs SB K ∗ levAts L lv ∗ cred (tallyAt (barCell c) () 15) ∗ atPos ER (barCell c) 0 ∅ 0 ∗ ow c (owS c 15)
        ∗ ((bigSep (ahead 0) (fun o => barPay c (pr o c)) ∗ atPos ER (barCell c) 1 ∅ 0 ∗ ow c (owR c 0)) -∗ Q ⟨⟩))
      ⊢ wp frame (wpE (defs₀ (F := F)) 𝒱₀ c none) Set.univ (semWaitWord barS 15#32) Q := by
  show _ ⊢ wp frame (wpE (defs₀ (F := F)) 𝒱₀ c none) Set.univ (.op (.semWait barS ((15 : ℕ) : ℤ)) .ret) Q
  rw [owS_end]
  iintro ⟨#Hinv, #Hlev, Hc, Hat, ⟨%W, HO⟩, Hk⟩
  ihave Hi := (inv_bar SB K c) $$ Hinv
  icases Hi with ⟨#Hi, -⟩
  iapply (Rounds.wp_wait_rest_token 𝒱₀ ER (talkRd SB) (c : Thread nD τ) none (κ := K (barCell c))
      (wpE_semWait_eq 𝒱₀ (c : Thread nD τ) none Set.univ) (Set.mem_univ _) () (O := owR c 0) (W := W) (R := 0) (m := 0) (T := ∅)
      ((Nat.zero_add 15).trans (expect_bar SB c).symm)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar SB c)) $$ Hpay
  rw [wp_ret]
  imodintro
  iapply Hk
  isplitl [Hp]
  · iapply (Entails.of_eq (show (bigSep (Finset.univ.erase c) (fun d => barPay c d) : sProp 𝕄) = bigSep (ahead 0) (fun o => barPay c (pr o c)) from by
      rw [ahead_all, show (Finset.univ.erase c : Finset (Dev nD)) = (Finset.univ.erase (0 : Fin 16)).map (around c).toEmbedding from by
        ext d
        simp only [Finset.mem_erase, Finset.mem_univ, and_true, Finset.mem_map, Equiv.coe_toEmbedding, around, Equiv.coe_fn_mk]
        constructor
        · intro hd; exact ⟨off c d, fun h0 => hd (by rw [← pr_off c d, h0]; exact Fin.ext (by have : c.val < 16 := c.isLt; simp only [pr]; simp)), pr_off c d⟩
        · rintro ⟨o, ho, rfl⟩; exact pr_ne o (Nat.pos_of_ne_zero fun h0 => ho (Fin.ext h0)) c, bigSep_map]
      rfl)) $$ Hp
  isplitl [Hat]; · iexact Hat
  iexists _; iexact HO

theorem send_step (K : GSem nD τ sig → ℕ) (c : Dev nD) (n n' : ℕ) (e : n + 1 = n') (h : n' < 16)
    {src dst : Memref sig .tc .vmem S25x1024 .bf16} {p : Dev nD} {s r : DmaSem sig}
    (hsrc : src = slab outM (pr ⟨n', h⟩ c)) (hdst : dst = slab inM c) (hp : p = pr ⟨n', h⟩ c) (hs : s = sendS ⟨n', h⟩) (hr : r = recvS c)
    (w₁ : src.view.WordExact) (w₂ : dst.view.WordExact) (hk : DmaTarget.Typed .vmem (.dma r) (.remote (Dev.tc p) dst (.dma s)))
    (Q : PUnit → sProp 𝕄) :
    iprop(invs SB K ∗ bigSep (ahead n) (sendRes SB c) ∗ bigSep (past n) (sentRes c) ∗ ow c (owR c n)
        ∗ ((bigSep (ahead n') (sendRes SB c) ∗ bigSep (past n') (sentRes c) ∗ ow c (owR c n')) -∗ Q ⟨⟩))
      ⊢ wp frame (wpE (defs₀ (F := F)) 𝒱₀ c none) Set.univ
          (Prog.lift (.enqueueDma src (.remote (Dev.tc p) dst (.dma s)) (.dma r) w₁ w₂ hk)) Q := by
  subst hsrc hdst hp hs hr
  have ho : 0 < (⟨n', h⟩ : Fin 16).val := by show 0 < n'; omega
  have hne := pr_ne ⟨n', h⟩ ho c
  unfold Prog.lift
  iintro ⟨#Hinv, Hs, Hd, ⟨%W, HO⟩, Hk⟩
  ihave Hs' := (take e h (sendRes SB c)) $$ Hs
  unfold sendRes barPay
  icases Hs' with ⟨⟨Hx, ⟨⟨%fn, Hy⟩, Hrv⟩, HtS, HrS, HtR⟩, Hs⟩
  iapply (Rounds.wp_send_pointsTo 𝒱₀ ER (talkRd SB) (c : Thread nD τ) none (c' := (pr ⟨n', h⟩ c : Thread nD τ)) (src := slab outM (pr ⟨n', h⟩ c)) (dst := slab inM c)
      (sS := .dma (sendS ⟨n', h⟩)) (sem := .dma (recvS c)) (q := fullShare) (fs := SB c) (κ₁ := K (sendCell c ⟨n', h⟩)) (κ₂ := K (recvCell (pr ⟨n', h⟩ c) c))
      (r₁ := 0) (r₂ := 0) (d₁ := 0) (d₂ := 0) (fd := fn)
      (by rw [duties_send, if_neg (fun h0 => absurd (congrArg Fin.val h0) ho.ne')]; exact Finset.mem_singleton_self _)
      (by rw [duties_recv, if_neg (fun h0 => hne h0.symm)]; exact Finset.mem_singleton_self _)
      () () N rfl (amount_send SB c _ 0) (amount_recv SB (pr ⟨n', h⟩ c) c 0) (owR c n') (owR_step c e h) (W := W)
      (by rw [payload_send]; exact BI.Entails.refl _)
      (by rw [payload_recv]; exact Entails.of_eq (inPts_congr (pr ⟨n', h⟩ c) c _ _ fun i hi => landed SB c (pr ⟨n', h⟩ c) fn i hi))) $$ [Hx Hy HO HtS HrS HtR Hrv]
  · isplitr; · iapply (inv_send SB K c ⟨n', h⟩) $$ Hinv
    isplitr; · iapply (inv_recv SB K (pr ⟨n', h⟩ c) c) $$ Hinv
    isplitl [Hx]; · iexact Hx
    isplitl [Hy]; · iexact Hy
    isplitl [HO]; · iexact HO
    isplitl [HtS]; · iexact HtS
    isplitl [HrS]; · iexact HrS
    isplitl [HtR]; · iexact HtR
    iexact Hrv
  iintro ⟨HcS, HO⟩
  rw [wp_ret]
  imodintro
  iapply Hk
  isplitl [Hs]; · iexact Hs
  isplitl [Hd HcS]
  · iapply (put e h (sentRes c))
    isplitl [HcS]; · unfold sentRes; iexact HcS
    iexact Hd
  iexists W; iexact HO

theorem recv_step (K : GSem nD τ sig → ℕ) (c : Dev nD) (n n' : ℕ) (e : n + 1 = n') (h : n' < 16)
    {src dst : Memref sig .tc .vmem S25x1024 .bf16} {r : DmaSem sig}
    (hdst : dst = slab inM (pr ⟨n', h⟩ c)) (hr : r = recvS (pr ⟨n', h⟩ c))
    (w₁ : src.view.WordExact) (w₂ : dst.view.WordExact) (Q : PUnit → sProp 𝕄) :
    iprop(invs SB K ∗ bigSep (ahead n) (recvRes c) ∗ bigSep (past n) (recvDone SB c) ∗ ow c 0
        ∗ ((bigSep (ahead n') (recvRes c) ∗ bigSep (past n') (recvDone SB c) ∗ ow c 0) -∗ Q ⟨⟩))
      ⊢ wp frame (wpE (defs₀ (F := F)) 𝒱₀ c none) Set.univ (Prog.lift (.waitDma2 r src dst w₁ w₂)) Q := by
  subst hdst hr
  have hcr : (slab inM (pr ⟨n', h⟩ c)).view.dmaCredit = N := slab_credit_in _
  have ho : 0 < (⟨n', h⟩ : Fin 16).val := by show 0 < n'; omega
  have hne := pr_ne ⟨n', h⟩ ho c
  unfold Prog.lift
  iintro ⟨#Hinv, Hs, Hd, ⟨%W, HO⟩, Hk⟩
  ihave Hs' := (take e h (recvRes c)) $$ Hs
  unfold recvRes
  icases Hs' with ⟨⟨Hc, Hat⟩, Hs⟩
  iapply (Rounds.wp_wait_rest_token 𝒱₀ ER (talkRd SB) (c : Thread nD τ) none (κ := K (recvCell c (pr ⟨n', h⟩ c)))
      (wpE_waitDma2_eq 𝒱₀ (c : Thread nD τ) none Set.univ) (Set.mem_univ _) () (O := 0) (W := W) (R := 0) (m := 0) (T := ∅)
      ((Nat.zero_add _).trans (hcr.trans (expect_recv SB c (pr ⟨n', h⟩ c) hne).symm))) $$ [Hc HO Hat]
  · isplitr; · iapply (inv_recv SB K c (pr ⟨n', h⟩ c)) $$ Hinv
    isplitl [Hc]; · rw [hcr]; iexact Hc
    isplitl [HO]; · iexact HO
    isplitr; · rw [MayWait_zero]; iempintro
    iexact Hat
  iintro ⟨HO, Hat, -, Hpay⟩
  ihave Hp := (Entails.of_eq ((rest_recv SB c (pr ⟨n', h⟩ c) hne).trans (recvPay_eq SB c _))) $$ Hpay
  rw [wp_ret]
  imodintro
  iapply Hk
  isplitl [Hs]; · iexact Hs
  isplitl [Hd Hp Hat]
  · iapply (put e h (recvDone SB c))
    isplitl [Hp Hat]
    · unfold recvDone
      isplitl [Hp]; · iexact Hp
      iexact Hat
    iexact Hd
  iexists _; iexact HO

theorem sent_step (K : GSem nD τ sig → ℕ) (c : Dev nD) (n n' : ℕ) (e : n + 1 = n') (h : n' < 16)
    {src dst : Memref sig .tc .vmem S25x1024 .bf16} {s : DmaSem sig} (hs : s = sendS ⟨n', h⟩) (hdst : dst.view.dmaCredit = N)
    (w₁ : src.view.WordExact) (w₂ : dst.view.WordExact) (Q : PUnit → sProp 𝕄) :
    iprop(invs SB K ∗ bigSep (ahead n) (sentRes c) ∗ bigSep (ahead n) (sentPos c) ∗ bigSep (past n) (sentDone SB c) ∗ ow c 0
        ∗ ((bigSep (ahead n') (sentRes c) ∗ bigSep (ahead n') (sentPos c) ∗ bigSep (past n') (sentDone SB c) ∗ ow c 0) -∗ Q ⟨⟩))
      ⊢ wp frame (wpE (defs₀ (F := F)) 𝒱₀ c none) Set.univ (Prog.lift (.waitDma2 s src dst w₁ w₂)) Q := by
  subst hs
  have ho : 0 < (⟨n', h⟩ : Fin 16).val := by show 0 < n'; omega
  unfold Prog.lift
  iintro ⟨#Hinv, Hs, Ha, Hd, ⟨%W, HO⟩, Hk⟩
  ihave Hs' := (take e h (sentRes c)) $$ Hs
  ihave Ha' := (take e h (sentPos c)) $$ Ha
  icases Hs' with ⟨Hc, Hs⟩
  icases Ha' with ⟨Hat, Ha⟩
  iapply (Rounds.wp_wait_rest_token 𝒱₀ ER (talkRd SB) (c : Thread nD τ) none (κ := K (sendCell c ⟨n', h⟩))
      (wpE_waitDma2_eq 𝒱₀ (c : Thread nD τ) none Set.univ) (Set.mem_univ _) () (O := 0) (W := W) (R := 0) (m := 0) (T := ∅)
      ((Nat.zero_add _).trans (hdst.trans (expect_send SB c ⟨n', h⟩ (fun h0 => absurd (congrArg Fin.val h0) ho.ne')).symm))) $$ [Hc HO Hat]
  · isplitr; · iapply (inv_send SB K c ⟨n', h⟩) $$ Hinv
    isplitl [Hc]; · unfold sentRes; rw [hdst]; iexact Hc
    isplitl [HO]; · iexact HO
    isplitr; · rw [MayWait_zero]; iempintro
    unfold sentPos; iexact Hat
  iintro ⟨HO, Hat, -, Hpay⟩
  ihave Hp := (Entails.of_eq ((rest_send SB c ⟨n', h⟩ (fun h0 => absurd (congrArg Fin.val h0) ho.ne')).trans (sendPay_eq SB c _))) $$ Hpay
  rw [wp_ret]
  imodintro
  iapply Hk
  isplitl [Hs]; · iexact Hs
  isplitl [Ha]; · iexact Ha
  isplitl [Hd Hp Hat]
  · iapply (put e h (sentDone SB c))
    isplitl [Hp Hat]
    · unfold sentDone
      isplitl [Hp]; · iexact Hp
      iexact Hat
    iexact Hd
  iexists _; iexact HO

end Cert.Moe
-- ==== Proof.Walk.lean ====
/-
  The steps of the exchange, and the loads and stores between them, each as: what the rest of the program needs, it has after the
  step. A walk through the body is then one line for each operation.
-/
module

public import proofs.«01_k».proof.Proof.Steps

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- A program of the kernel's core. -/
abbrev Pr (F : FTy → Type) [FloatOps F] (α : Type) : Type 1 := Prog (TpuEff nD τ sig (Elt F) Λ₀ .tc) α

/-- The program `p` runs on device `c` to `Q`. -/
abbrev runs {α : Type} (c : Dev nD) (p : Pr F α) (Q : α → sProp 𝕄) : sProp 𝕄 :=
  wp frame (wpE (defs₀ (F := F)) 𝒱₀ c none) Set.univ p Q

variable {α : Type} {c : Dev nD} {P R : sProp (MT nD τ sig Unit (Elt F) ℕ UU ℕ)} {Q : α → sProp (MT nD τ sig Unit (Elt F) ℕ UU ℕ)}

/-! ## Returns, loads, stores -/

theorem then_ret {v : α} (h : P ⊢ Q v) : P ⊢ runs c (Pure.pure v) Q := by
  show _ ⊢ runs c (.ret v) Q
  rw [runs, wp_ret]; iintro H; imodintro; iapply h; iexact H

theorem then_device {k : Dev nD → Pr F α} (h : P ⊢ runs c (k c) Q) : P ⊢ runs c (Prog.lift .deviceId >>= k) Q := by
  rw [runs, wp_bind]
  show _ ⊢ runs c (.op .deviceId .ret) _
  rw [runs, wp_deviceId]
  try rw [wp_ret]
  iintro H; imodintro; iapply h; iexact H

/-- A load from a buffer the state holds, on elements that include those read. -/
theorem then_load {s : Shape} {e : EltTy} {m : Memref sig .tc .vmem s e} {r : LoadRect s} {w : m.view.LoadsAt r} {k : Vec F r.shape e → Pr F α}
    {S : Finset (Idx (m.view.loc (c : Thread nD τ)))} {A : Buf (Elt F) (m.view.loc (c : Thread nD τ))} (hS : m.view.setOn r.set ⊆ S)
    (hP : P ⊢ iprop((m.view.loc (c : Thread nD τ) ↦[S]{fullShare} A) ∗ ((m.view.loc (c : Thread nD τ) ↦[S]{fullShare} A) -∗ P)))
    (h : P ⊢ runs c (k (m.view.readAt (Elt F) r A)) Q) :
    P ⊢ runs c (Prog.lift (.load m r w) >>= k) Q := by
  refine hP.trans ?_
  rw [runs, wp_bind]
  unfold Prog.lift
  iintro ⟨H, HP⟩
  iapply (wp_load 𝒱₀ (c : Thread nD τ) none Set.univ (m := m) (r := r) (hl := w) (S := S) (q := fullShare) (f := A) hS) $$ H
  iintro H
  rw [wp_ret]; imodintro
  iapply h; iapply HP; iexact H

/-- A load whose result nothing reads. -/
theorem then_load_any {s : Shape} {e : EltTy} {m : Memref sig .tc .vmem s e} {r : LoadRect s} {w : m.view.LoadsAt r} {k : Vec F r.shape e → Pr F α}
    {S : Finset (Idx (m.view.loc (c : Thread nD τ)))} (hS : m.view.setOn r.set ⊆ S)
    (hP : P ⊢ iprop(∃ A, (m.view.loc (c : Thread nD τ) ↦[S]{fullShare} A) ∗ ((m.view.loc (c : Thread nD τ) ↦[S]{fullShare} A) -∗ P)))
    (h : ∀ v, P ⊢ runs c (k v) Q) :
    P ⊢ runs c (Prog.lift (.load m r w) >>= k) Q := by
  refine hP.trans ?_
  rw [runs, wp_bind]
  unfold Prog.lift
  iintro ⟨%A, H, HP⟩
  iapply (wp_load 𝒱₀ (c : Thread nD τ) none Set.univ (m := m) (r := r) (hl := w) (S := S) (q := fullShare) (f := A) hS) $$ H
  iintro H
  rw [wp_ret]; imodintro
  iapply (h _); iapply HP; iexact H

/-- A store to a buffer the state holds. -/
theorem then_store {s : Shape} {e : EltTy} {m : Memref sig .tc .vmem s e} {r : Rect s} {p : r.shape.Idx → Elt F e} {w₁ : (m.access r).Stores Finset.univ}
    {w₂ : Finset.univ = Finset.univ ∨ ∀ a, r.stride a = 1} {k : PUnit → Pr F α}
    {S : Finset (Idx ((m.access r).loc (c : Thread nD τ)))} (hS : (m.access r).setOn Finset.univ ⊆ S) {P' : sProp 𝕄}
    (hP : P ⊢ iprop(∃ A, ((m.access r).loc (c : Thread nD τ) ↦[S]{fullShare} A)
      ∗ (((m.access r).loc (c : Thread nD τ) ↦[S]{fullShare} (m.access r).write (Elt F) A p Finset.univ) -∗ P')))
    (h : P' ⊢ runs c (k ⟨⟩) Q) :
    P ⊢ runs c (Prog.lift (.store m r p Finset.univ w₁ w₂) >>= k) Q := by
  refine hP.trans ?_
  rw [runs, wp_bind]
  show _ ⊢ runs c (.op (.store m r p Finset.univ w₁ w₂) .ret) _
  iintro ⟨%A, H, HP⟩
  iapply (wp_store 𝒱₀ (c : Thread nD τ) none Set.univ (hx := w₁) (hm := w₂) hS) $$ H
  iintro H
  rw [wp_ret]; imodintro
  iapply h; iapply HP; iexact H

/-! ## The sixteen slabs to send, stored one by one -/

/-- Slabs `0` to `n - 1` of the buffer hold what `f` says. -/
def stored (c : Dev nD) (f : Slabs F) (n : ℕ) : sProp 𝕄 := iprop(∃ g : Slabs F, ⌜∀ i : S16x25x1024.Idx, (i 0).val < n → g i = f i⌝ ∗ outWhole c g)

theorem rect_slab (j : Fin 16) (inb : ∀ a, (![j.val, 0, 0] : Fin 3 → ℕ) a + S1x25x1024.size a ≤ S16x25x1024.size a) (a : Fin 25) (b : Fin 1024) :
    (Rect.unit (s := S16x25x1024) ![j.val, 0, 0] S1x25x1024.size inb).emb (ix3 0 a b : S1x25x1024.Idx) = ix3 j a b := by
  funext x; apply Fin.ext; fin_cases x
  · show j.val + 1 * 0 = j.val; omega
  · show 0 + 1 * a.val = a.val; omega
  · show 0 + 1 * b.val = b.val; omega

theorem slab_idx (i : S16x25x1024.Idx) (j : Fin 16) (h : (i 0).val = j.val) : ∃ (a : Fin 25) (b : Fin 1024), i = (ix3 j a b : S16x25x1024.Idx) :=
  ⟨i 1, i 2, funext fun x => Fin.ext (by fin_cases x; exacts [h, rfl, rfl])⟩

theorem wrote (j : Fin 16) (inb : ∀ a, (![j.val, 0, 0] : Fin 3 → ℕ) a + S1x25x1024.size a ≤ S16x25x1024.size a) (g : Slabs F)
    (p : S1x25x1024.Idx → Elt F .bf16) (i : S16x25x1024.Idx) :
    (outM.access (Rect.unit (s := S16x25x1024) ![j.val, 0, 0] S1x25x1024.size inb)).write (Elt F) g p Finset.univ i
      = if (i 0).val = j.val then p (ix3 0 (i 1) (i 2)) else g i := by
  split
  · rename_i h
    obtain ⟨a, b, rfl⟩ := slab_idx i j h
    conv_lhs => rw [← rect_slab j inb a b]
    exact View.write_emb_of_mem (v := outM.access _) _ _ (Finset.mem_univ _)
  · rename_i h
    refine View.write_of_not_mem (v := outM.access _) _ _ _ fun hi => h ?_
    obtain ⟨x, -, rfl⟩ := Finset.mem_map.mp hi
    have h0 : (x 0).val < 1 := (x 0).isLt
    show j.val + 1 * (x 0).val = j.val
    omega

theorem then_slab {f : Slabs F} (j : Fin 16) {inb : ∀ a, (![j.val, 0, 0] : Fin 3 → ℕ) a + S1x25x1024.size a ≤ S16x25x1024.size a}
    {p : S1x25x1024.Idx → Elt F .bf16}
    {w₁ : (outM.access (Rect.unit (s := S16x25x1024) ![j.val, 0, 0] S1x25x1024.size inb)).Stores Finset.univ}
    {w₂ : Finset.univ = Finset.univ ∨ ∀ a, (Rect.unit (s := S16x25x1024) ![j.val, 0, 0] S1x25x1024.size inb).stride a = 1} {k : PUnit → Pr F α}
    (hp : ∀ (a : Fin 25) (b : Fin 1024), p (ix3 0 a b) = f (ix3 j a b))
    (h : iprop(stored c f (j.val + 1) ∗ R) ⊢ runs c (k ⟨⟩) Q) :
    iprop(stored c f j.val ∗ R) ⊢ runs c (Prog.lift (.store outM (Rect.unit (s := S16x25x1024) ![j.val, 0, 0] S1x25x1024.size inb) p Finset.univ w₁ w₂) >>= k) Q := by
  refine then_store (S := Finset.univ) (Finset.subset_univ _) (P' := iprop(stored c f (j.val + 1) ∗ R)) ?_ h
  unfold stored
  iintro ⟨⟨%g, %hg, H⟩, HR⟩
  iexists g
  isplitl [H]; · iexact H
  iintro H
  isplitl [H]
  · iexists _
    isplitr
    swap; · iexact H
    ipureintro
    intro i hi
    rw [wrote j inb g p i]
    split
    · rename_i he
      obtain ⟨a, b, rfl⟩ := slab_idx i j he
      exact hp a b
    · exact hg i (by omega)
  iexact HR

/-- A store of a slab's first twenty-four rows leaves the slabs before it. -/
theorem then_rows {f : Slabs F} (j : Fin 16) {inb : ∀ a, (![j.val, 0, 0] : Fin 3 → ℕ) a + S1x24x1024.size a ≤ S16x25x1024.size a}
    {p : S1x24x1024.Idx → Elt F .bf16}
    {w₁ : (outM.access (Rect.unit (s := S16x25x1024) ![j.val, 0, 0] S1x24x1024.size inb)).Stores Finset.univ}
    {w₂ : Finset.univ = Finset.univ ∨ ∀ a, (Rect.unit (s := S16x25x1024) ![j.val, 0, 0] S1x24x1024.size inb).stride a = 1} {k : PUnit → Pr F α}
    (h : iprop(stored c f j.val ∗ R) ⊢ runs c (k ⟨⟩) Q) :
    iprop(stored c f j.val ∗ R) ⊢ runs c (Prog.lift (.store outM (Rect.unit (s := S16x25x1024) ![j.val, 0, 0] S1x24x1024.size inb) p Finset.univ w₁ w₂) >>= k) Q := by
  refine then_store (S := Finset.univ) (Finset.subset_univ _) (P' := iprop(stored c f j.val ∗ R)) ?_ h
  unfold stored
  iintro ⟨⟨%g, %hg, H⟩, HR⟩
  iexists g
  isplitl [H]; · iexact H
  iintro H
  isplitl [H]
  · iexists _
    isplitr
    swap; · iexact H
    ipureintro
    intro i hi
    rw [View.write_of_not_mem (v := outM.access _) _ _ _ fun hm => ?_]
    · exact hg i hi
    · obtain ⟨x, -, rfl⟩ := Finset.mem_map.mp hm
      have e : ((Rect.unit (s := S16x25x1024) ![j.val, 0, 0] S1x24x1024.size inb).emb x 0).val = j.val + 1 * (x 0).val := rfl
      exact absurd (lt_of_lt_of_le hi (Nat.le_add_right j.val (1 * (x 0).val))) (by rw [← e]; exact lt_irrefl _)
  iexact HR

/-- The dead load before a slab's store. -/
theorem then_peek {f : Slabs F} {n : ℕ} {r : LoadRect S16x25x1024} {w : outM.view.LoadsAt r} {k : Vec F r.shape .bf16 → Pr F α}
    (h : ∀ v, iprop(stored c f n ∗ R) ⊢ runs c (k v) Q) : iprop(stored c f n ∗ R) ⊢ runs c (Prog.lift (.load outM r w) >>= k) Q := by
  refine then_load_any (S := Finset.univ) (Finset.subset_univ _) ?_ h
  unfold stored
  iintro ⟨⟨%g, %hg, H⟩, HR⟩
  iexists g
  isplitl [H]; · iexact H
  iintro H
  isplitl [H]
  · iexists g
    isplitr; · ipureintro; exact hg
    iexact H
  iexact HR

/-! ## The exchange -/

variable {SB : Dev nD → Slabs F} {K : GSem nD τ sig → ℕ}

/-- `n` signals are out. -/
def sigSt (SB : Dev nD → Slabs F) (K : GSem nD τ sig → ℕ) (c : Dev nD) (n : ℕ) : sProp 𝕄 :=
  iprop(invs SB K ∗ bigSep (ahead n) (sigRes (F := F) c) ∗ ow c (owS c n))
/-- `n` copies are out. -/
def sendSt (SB : Dev nD → Slabs F) (K : GSem nD τ sig → ℕ) (c : Dev nD) (n : ℕ) : sProp 𝕄 :=
  iprop(invs SB K ∗ bigSep (ahead n) (sendRes SB c) ∗ bigSep (past n) (sentRes (F := F) c) ∗ ow c (owR c n))
/-- `n` copies have come in. -/
def recvSt (SB : Dev nD → Slabs F) (K : GSem nD τ sig → ℕ) (c : Dev nD) (n : ℕ) : sProp 𝕄 :=
  iprop(invs SB K ∗ bigSep (ahead n) (recvRes (F := F) c) ∗ bigSep (past n) (recvDone SB c) ∗ ow c 0)
/-- `n` copies have been seen to have gone out. -/
def sentSt (SB : Dev nD → Slabs F) (K : GSem nD τ sig → ℕ) (c : Dev nD) (n : ℕ) : sProp 𝕄 :=
  iprop(invs SB K ∗ bigSep (ahead n) (sentRes (F := F) c) ∗ bigSep (ahead n) (sentPos (F := F) c) ∗ bigSep (past n) (sentDone SB c) ∗ ow c 0)

theorem then_sig (n n' : ℕ) (e : n + 1 = n') (h' : n' < 16) {p : Dev nD} (hp : p = pr ⟨n', h'⟩ c) {k : PUnit → Pr F α}
    (h : iprop(sigSt SB K c n' ∗ R) ⊢ runs c (k ⟨⟩) Q) :
    iprop(sigSt SB K c n ∗ R) ⊢ runs c (semSignalWord p barS 1#32 >>= k) Q := by
  rw [runs, wp_bind]
  unfold sigSt
  iintro ⟨⟨#I, Hs, HO⟩, HR⟩
  iapply (sig_step SB K c n n' e h' hp)
  isplitr; · iexact I
  isplitl [Hs]; · iexact Hs
  isplitl [HO]; · iexact HO
  iintro ⟨Hs, HO⟩
  iapply h
  isplitr [HR]
  · unfold sigSt
    isplitr; · iexact I
    isplitl [Hs]; · iexact Hs
    iexact HO
  iexact HR

/-- What the wait for the signals spends. -/
def barRes (c : Dev nD) : sProp 𝕄 := iprop(levAts L lv ∗ cred (tallyAt (barCell c) () 15) ∗ atPos ER (barCell c) 0 ∅ 0)
/-- What the wait for the signals gives. -/
def barDone (SB : Dev nD → Slabs F) (K : GSem nD τ sig → ℕ) (c : Dev nD) : sProp 𝕄 :=
  iprop(invs SB K ∗ bigSep (ahead 0) (fun o => barPay (F := F) c (pr o c)) ∗ atPos ER (barCell c) 1 ∅ 0 ∗ ow c (owR c 0))

theorem then_bar {k : PUnit → Pr F α} (h : iprop(barDone SB K c ∗ R) ⊢ runs c (k ⟨⟩) Q) :
    iprop(sigSt SB K c 15 ∗ barRes c ∗ R) ⊢ runs c (semWaitWord barS 15#32 >>= k) Q := by
  rw [runs, wp_bind]
  unfold sigSt barRes
  iintro ⟨⟨#I, -, HO⟩, ⟨Hl, Hc, Ha⟩, HR⟩
  iapply (bar_wait SB K c)
  isplitr; · iexact I
  isplitl [Hl]; · iexact Hl
  isplitl [Hc]; · iexact Hc
  isplitl [Ha]; · iexact Ha
  isplitl [HO]; · iexact HO
  iintro ⟨Hb, Ha, HO⟩
  iapply h
  isplitr [HR]
  · unfold barDone
    isplitr; · iexact I
    isplitl [Hb]; · iexact Hb
    isplitl [Ha]; · iexact Ha
    iexact HO
  iexact HR

theorem then_send (n n' : ℕ) (e : n + 1 = n') (h' : n' < 16)
    {src dst : Memref sig .tc .vmem S25x1024 .bf16} {p : Dev nD} {s r : DmaSem sig}
    (hsrc : src = slab outM (pr ⟨n', h'⟩ c)) (hdst : dst = slab inM c) (hp : p = pr ⟨n', h'⟩ c) (hs : s = sendS ⟨n', h'⟩) (hr : r = recvS c)
    {w₁ : src.view.WordExact} {w₂ : dst.view.WordExact} {hk : DmaTarget.Typed .vmem (.dma r) (.remote (Dev.tc p) dst (.dma s))}
    {k : PUnit → Pr F α} (h : iprop(sendSt SB K c n' ∗ R) ⊢ runs c (k ⟨⟩) Q) :
    iprop(sendSt SB K c n ∗ R) ⊢ runs c (Prog.lift (.enqueueDma src (.remote (Dev.tc p) dst (.dma s)) (.dma r) w₁ w₂ hk) >>= k) Q := by
  rw [runs, wp_bind]
  unfold sendSt
  iintro ⟨⟨#I, Hs, Hd, HO⟩, HR⟩
  iapply (send_step SB K c n n' e h' hsrc hdst hp hs hr w₁ w₂ hk)
  isplitr; · iexact I
  isplitl [Hs]; · iexact Hs
  isplitl [Hd]; · iexact Hd
  isplitl [HO]; · iexact HO
  iintro ⟨Hs, Hd, HO⟩
  iapply h
  isplitr [HR]
  · unfold sendSt
    isplitr; · iexact I
    isplitl [Hs]; · iexact Hs
    isplitl [Hd]; · iexact Hd
    iexact HO
  iexact HR

theorem then_recv (n n' : ℕ) (e : n + 1 = n') (h' : n' < 16) {src dst : Memref sig .tc .vmem S25x1024 .bf16} {r : DmaSem sig}
    (hdst : dst = slab inM (pr ⟨n', h'⟩ c)) (hr : r = recvS (pr ⟨n', h'⟩ c)) {w₁ : src.view.WordExact} {w₂ : dst.view.WordExact}
    {k : PUnit → Pr F α} (h : iprop(recvSt SB K c n' ∗ R) ⊢ runs c (k ⟨⟩) Q) :
    iprop(recvSt SB K c n ∗ R) ⊢ runs c (Prog.lift (.waitDma2 r src dst w₁ w₂) >>= k) Q := by
  rw [runs, wp_bind]
  unfold recvSt
  iintro ⟨⟨#I, Hs, Hd, HO⟩, HR⟩
  iapply (recv_step SB K c n n' e h' hdst hr w₁ w₂)
  isplitr; · iexact I
  isplitl [Hs]; · iexact Hs
  isplitl [Hd]; · iexact Hd
  isplitl [HO]; · iexact HO
  iintro ⟨Hs, Hd, HO⟩
  iapply h
  isplitr [HR]
  · unfold recvSt
    isplitr; · iexact I
    isplitl [Hs]; · iexact Hs
    isplitl [Hd]; · iexact Hd
    iexact HO
  iexact HR

theorem then_sent (n n' : ℕ) (e : n + 1 = n') (h' : n' < 16) {src dst : Memref sig .tc .vmem S25x1024 .bf16} {s : DmaSem sig}
    (hs : s = sendS ⟨n', h'⟩) (hdst : dst.view.dmaCredit = N) {w₁ : src.view.WordExact} {w₂ : dst.view.WordExact}
    {k : PUnit → Pr F α} (h : iprop(sentSt SB K c n' ∗ R) ⊢ runs c (k ⟨⟩) Q) :
    iprop(sentSt SB K c n ∗ R) ⊢ runs c (Prog.lift (.waitDma2 s src dst w₁ w₂) >>= k) Q := by
  rw [runs, wp_bind]
  unfold sentSt
  iintro ⟨⟨#I, Hs, Hp, Hd, HO⟩, HR⟩
  iapply (sent_step SB K c n n' e h' hs hdst w₁ w₂)
  isplitr; · iexact I
  isplitl [Hs]; · iexact Hs
  isplitl [Hp]; · iexact Hp
  isplitl [Hd]; · iexact Hd
  isplitl [HO]; · iexact HO
  iintro ⟨Hs, Hp, Hd, HO⟩
  iapply h
  isplitr [HR]
  · unfold sentSt
    isplitr; · iexact I
    isplitl [Hs]; · iexact Hs
    isplitl [Hp]; · iexact Hp
    isplitl [Hd]; · iexact Hd
    iexact HO
  iexact HR

end Cert.Moe
-- ==== Proof.Phase.lean ====
/-
  What a device holds from phase to phase of the body, the passages between the phases, and the body's own operations as steps.
-/
module

public import proofs.«01_k».proof.Proof.Vals
public import proofs.«01_k».proof.Proof.Walk

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type} {c : Dev nD} {I : Ins F} {R St : sProp (MT nD τ sig Unit (Elt F) ℕ UU ℕ)} {Q : α → sProp (MT nD τ sig Unit (Elt F) ℕ UU ℕ)}
variable {SB : Dev nD → Slabs F} {K : GSem nD τ sig → ℕ}

/-! ## The staged arrays -/

/-- The seven staged inputs hold `I`. -/
def wins (c : Dev nD) (I : Ins F) : sProp 𝕄 :=
  iprop(((Memref.whole cc0_stg0_0).view.loc (c : Thread nD τ) ↦{fullShare} I.x)
    ∗ ((Memref.whole cc0_stg1_0).view.loc (c : Thread nD τ) ↦{fullShare} I.rw)
    ∗ ((Memref.whole cc0_stg2_0).view.loc (c : Thread nD τ) ↦{fullShare} I.ix)
    ∗ ((Memref.whole cc0_stg3_0).view.loc (c : Thread nD τ) ↦{fullShare} I.w)
    ∗ ((Memref.whole cc0_stg4_0).view.loc (c : Thread nD τ) ↦{fullShare} I.tri)
    ∗ ((Memref.whole cc0_stg5_0).view.loc (c : Thread nD τ) ↦{fullShare} I.tm)
    ∗ ((Memref.whole cc0_stg6_0).view.loc (c : Thread nD τ) ↦{fullShare} I.sr))

/-- The staged result holds `o`. -/
abbrev winOut (c : Dev nD) (o : Vec F S64x1024 .f32) : sProp 𝕄 := (Memref.whole cc0_stg7_0).view.loc (c : Thread nD τ) ↦{fullShare} o

theorem wins_x : (wins c I : sProp 𝕄) ⊢ iprop(((Memref.whole cc0_stg0_0).view.loc (c : Thread nD τ) ↦{fullShare} I.x)
    ∗ (((Memref.whole cc0_stg0_0).view.loc (c : Thread nD τ) ↦{fullShare} I.x) -∗ wins c I)) := by
  unfold wins; iintro ⟨H, Hs⟩; isplitl [H]; · iexact H
  iintro H; isplitl [H]; · iexact H
  iexact Hs
theorem wins_rw : (wins c I : sProp 𝕄) ⊢ iprop(((Memref.whole cc0_stg1_0).view.loc (c : Thread nD τ) ↦{fullShare} I.rw)
    ∗ (((Memref.whole cc0_stg1_0).view.loc (c : Thread nD τ) ↦{fullShare} I.rw) -∗ wins c I)) := by
  unfold wins; iintro ⟨H0, H, Hs⟩; isplitl [H]; · iexact H
  iintro H; isplitl [H0]; · iexact H0
  isplitl [H]; · iexact H
  iexact Hs
theorem wins_ix : (wins c I : sProp 𝕄) ⊢ iprop(((Memref.whole cc0_stg2_0).view.loc (c : Thread nD τ) ↦{fullShare} I.ix)
    ∗ (((Memref.whole cc0_stg2_0).view.loc (c : Thread nD τ) ↦{fullShare} I.ix) -∗ wins c I)) := by
  unfold wins; iintro ⟨H0, H1, H, Hs⟩; isplitl [H]; · iexact H
  iintro H; isplitl [H0]; · iexact H0
  isplitl [H1]; · iexact H1
  isplitl [H]; · iexact H
  iexact Hs
theorem wins_w : (wins c I : sProp 𝕄) ⊢ iprop(((Memref.whole cc0_stg3_0).view.loc (c : Thread nD τ) ↦{fullShare} I.w)
    ∗ (((Memref.whole cc0_stg3_0).view.loc (c : Thread nD τ) ↦{fullShare} I.w) -∗ wins c I)) := by
  unfold wins; iintro ⟨H0, H1, H2, H, Hs⟩; isplitl [H]; · iexact H
  iintro H; isplitl [H0]; · iexact H0
  isplitl [H1]; · iexact H1
  isplitl [H2]; · iexact H2
  isplitl [H]; · iexact H
  iexact Hs
theorem wins_tri : (wins c I : sProp 𝕄) ⊢ iprop(((Memref.whole cc0_stg4_0).view.loc (c : Thread nD τ) ↦{fullShare} I.tri)
    ∗ (((Memref.whole cc0_stg4_0).view.loc (c : Thread nD τ) ↦{fullShare} I.tri) -∗ wins c I)) := by
  unfold wins; iintro ⟨H0, H1, H2, H3, H, Hs⟩; isplitl [H]; · iexact H
  iintro H; isplitl [H0]; · iexact H0
  isplitl [H1]; · iexact H1
  isplitl [H2]; · iexact H2
  isplitl [H3]; · iexact H3
  isplitl [H]; · iexact H
  iexact Hs
theorem wins_tm : (wins c I : sProp 𝕄) ⊢ iprop(((Memref.whole cc0_stg5_0).view.loc (c : Thread nD τ) ↦{fullShare} I.tm)
    ∗ (((Memref.whole cc0_stg5_0).view.loc (c : Thread nD τ) ↦{fullShare} I.tm) -∗ wins c I)) := by
  unfold wins; iintro ⟨H0, H1, H2, H3, H4, H, Hs⟩; isplitl [H]; · iexact H
  iintro H; isplitl [H0]; · iexact H0
  isplitl [H1]; · iexact H1
  isplitl [H2]; · iexact H2
  isplitl [H3]; · iexact H3
  isplitl [H4]; · iexact H4
  isplitl [H]; · iexact H
  iexact Hs
theorem wins_sr : (wins c I : sProp 𝕄) ⊢ iprop(((Memref.whole cc0_stg6_0).view.loc (c : Thread nD τ) ↦{fullShare} I.sr)
    ∗ (((Memref.whole cc0_stg6_0).view.loc (c : Thread nD τ) ↦{fullShare} I.sr) -∗ wins c I)) := by
  unfold wins; iintro ⟨H0, H1, H2, H3, H4, H5, H⟩; isplitl [H]; · iexact H
  iintro H; isplitl [H0]; · iexact H0
  isplitl [H1]; · iexact H1
  isplitl [H2]; · iexact H2
  isplitl [H3]; · iexact H3
  isplitl [H4]; · iexact H4
  isplitl [H5]; · iexact H5
  iexact H

/-- A load from a staged input. -/
theorem then_win {s : Shape} {e : EltTy} {m : Memref sig .tc .vmem s e} {r : LoadRect s} {w : m.view.LoadsAt r} {k : Vec F r.shape e → Pr F α}
    {A : Buf (Elt F) (m.view.loc (c : Thread nD τ))}
    (hw : (wins c I : sProp 𝕄) ⊢ iprop((m.view.loc (c : Thread nD τ) ↦{fullShare} A) ∗ ((m.view.loc (c : Thread nD τ) ↦{fullShare} A) -∗ wins c I)))
    (h : iprop(St ∗ wins c I ∗ R) ⊢ runs c (k (m.view.readAt (Elt F) r A)) Q) :
    iprop(St ∗ wins c I ∗ R) ⊢ runs c (Prog.lift (.load m r w) >>= k) Q := by
  refine then_load (S := Finset.univ) (Finset.subset_univ _) ?_ h
  iintro ⟨HS, HW, HR⟩
  ihave HW := hw $$ HW
  icases HW with ⟨H, HW⟩
  isplitl [H]; · iexact H
  iintro H
  isplitl [HS]; · iexact HS
  isplitl [HW H]; · iapply HW; iexact H
  iexact HR

/-- A load from the inbox. -/
theorem then_in {g : Slabs F} {r : LoadRect S16x25x1024} {w : inM.view.LoadsAt r} {k : Vec F r.shape .bf16 → Pr F α}
    (h : iprop(inWhole c g ∗ R) ⊢ runs c (k (inM.view.readAt (Elt F) r g)) Q) :
    iprop(inWhole c g ∗ R) ⊢ runs c (Prog.lift (.load inM r w) >>= k) Q := by
  refine then_load (S := Finset.univ) (Finset.subset_univ _) ?_ h
  iintro ⟨H, HR⟩
  isplitl [H]; · iexact H
  iintro H
  isplitl [H]; · iexact H
  iexact HR

/-! ## The copies, as the body writes them -/

theorem sem_out (j : Fin 16) {o : Fin 1 → ℕ} (h : o = ![j.val]) (inb : ∀ a, o a + S1.size a ≤ S16.size a) :
    ((cc0_scratch2.slice (Rect.unit (s := S16) o S1.size inb)).squeeze S_ squeezes_S1_S_).sem = sendS j := by subst h; revert j; decide
theorem sem_in (j : Fin 16) {o : Fin 1 → ℕ} (h : o = ![j.val]) (inb : ∀ a, o a + S1.size a ≤ S16.size a) :
    ((cc0_scratch3.slice (Rect.unit (s := S16) o S1.size inb)).squeeze S_ squeezes_S1_S_).sem = recvS j := by subst h; revert j; decide

theorem off1 : ∀ c : Dev nD, k0_off1 c = ![c.val] := by decide
theorem off2 : ∀ c : Dev nD, k0_off2 c = ![c.val, 0, 0] := by decide
theorem off3 : ∀ (n : Fin 16) (c : Dev nD), k0_off3 c (BitVec.ofNat 32 n.val) = ![(pr n c).val, 0, 0] := by decide
theorem off4 : ∀ c : Dev nD, k0_off4 c = ![c.val, 0, 0] := by decide
theorem off5 : ∀ (n : Fin 16) (c : Dev nD), k0_off5 c (BitVec.ofNat 32 n.val) = ![(pr n c).val] := by decide

theorem then_copy (n n' : ℕ) (e : n + 1 = n') (h' : n' < 16) {p : ℕ} {hp : p < nD} (hd : p = (pr ⟨n', h'⟩ c).val)
    {i₁ : ∀ a, k0_off3 c (BitVec.ofNat 32 n') a + S1x25x1024.size a ≤ S16x25x1024.size a} {i₂ : ∀ a, k0_off2 c a + S1x25x1024.size a ≤ S16x25x1024.size a}
    {i₃ : ∀ a, (![n'] : Fin 1 → ℕ) a + S1.size a ≤ S16.size a} {i₄ : ∀ a, k0_off1 c a + S1.size a ≤ S16.size a}
    {w₁ : ((outM.slice (Rect.unit (s := S16x25x1024) (k0_off3 c (BitVec.ofNat 32 n')) S1x25x1024.size i₁) (fun _ => rfl)).squeeze S25x1024 squeezes_S1x25x1024_S25x1024).view.WordExact}
    {w₂ : ((inM.slice (Rect.unit (s := S16x25x1024) (k0_off2 c) S1x25x1024.size i₂) (fun _ => rfl)).squeeze S25x1024 squeezes_S1x25x1024_S25x1024).view.WordExact}
    {hk : DmaTarget.Typed .vmem (.dma ((cc0_scratch3.slice (Rect.unit (s := S16) (k0_off1 c) S1.size i₄)).squeeze S_ squeezes_S1_S_).sem)
      (.remote (Dev.tc (⟨p, hp⟩ : Dev nD)) ((inM.slice (Rect.unit (s := S16x25x1024) (k0_off2 c) S1x25x1024.size i₂) (fun _ => rfl)).squeeze S25x1024 squeezes_S1x25x1024_S25x1024)
        (.dma ((cc0_scratch2.slice (Rect.unit (s := S16) ![n'] S1.size i₃)).squeeze S_ squeezes_S1_S_).sem))}
    {k : PUnit → Pr F α} (h : iprop(sendSt SB K c n' ∗ R) ⊢ runs c (k ⟨⟩) Q) :
    iprop(sendSt SB K c n ∗ R) ⊢ runs c (Prog.lift (.enqueueDma
      ((outM.slice (Rect.unit (s := S16x25x1024) (k0_off3 c (BitVec.ofNat 32 n')) S1x25x1024.size i₁) (fun _ => rfl)).squeeze S25x1024 squeezes_S1x25x1024_S25x1024)
      (.remote (Dev.tc (⟨p, hp⟩ : Dev nD)) ((inM.slice (Rect.unit (s := S16x25x1024) (k0_off2 c) S1x25x1024.size i₂) (fun _ => rfl)).squeeze S25x1024 squeezes_S1x25x1024_S25x1024)
        (.dma ((cc0_scratch2.slice (Rect.unit (s := S16) ![n'] S1.size i₃)).squeeze S_ squeezes_S1_S_).sem))
      (.dma ((cc0_scratch3.slice (Rect.unit (s := S16) (k0_off1 c) S1.size i₄)).squeeze S_ squeezes_S1_S_).sem) w₁ w₂ hk) >>= k) Q :=
  then_send n n' e h' (slab_of outM _ (off3 ⟨n', h'⟩ c) _) (slab_of inM c (off2 c) _) (Fin.ext hd) (sem_out ⟨n', h'⟩ rfl _) (sem_in c (off1 c) _) h

theorem then_come (n n' : ℕ) (e : n + 1 = n') (h' : n' < 16) {src : Memref sig .tc .vmem S25x1024 .bf16}
    {i₁ : ∀ a, k0_off3 c (BitVec.ofNat 32 n') a + S1x25x1024.size a ≤ S16x25x1024.size a}
    {i₄ : ∀ a, k0_off5 c (BitVec.ofNat 32 n') a + S1.size a ≤ S16.size a} {w₁ : src.view.WordExact}
    {w₂ : ((inM.slice (Rect.unit (s := S16x25x1024) (k0_off3 c (BitVec.ofNat 32 n')) S1x25x1024.size i₁) (fun _ => rfl)).squeeze S25x1024 squeezes_S1x25x1024_S25x1024).view.WordExact}
    {k : PUnit → Pr F α} (h : iprop(recvSt SB K c n' ∗ R) ⊢ runs c (k ⟨⟩) Q) :
    iprop(recvSt SB K c n ∗ R) ⊢ runs c (Prog.lift (.waitDma2
      ((cc0_scratch3.slice (Rect.unit (s := S16) (k0_off5 c (BitVec.ofNat 32 n')) S1.size i₄)).squeeze S_ squeezes_S1_S_).sem src
      ((inM.slice (Rect.unit (s := S16x25x1024) (k0_off3 c (BitVec.ofNat 32 n')) S1x25x1024.size i₁) (fun _ => rfl)).squeeze S25x1024 squeezes_S1x25x1024_S25x1024)
      w₁ w₂) >>= k) Q :=
  then_recv n n' e h' (slab_of inM _ (off3 ⟨n', h'⟩ c) _) (sem_in _ (off5 ⟨n', h'⟩ c) _) h

theorem then_gone (n n' : ℕ) (e : n + 1 = n') (h' : n' < 16) {src : Memref sig .tc .vmem S25x1024 .bf16}
    {i₁ : ∀ a, k0_off3 c (BitVec.ofNat 32 n') a + S1x25x1024.size a ≤ S16x25x1024.size a}
    {i₃ : ∀ a, (![n'] : Fin 1 → ℕ) a + S1.size a ≤ S16.size a} {w₁ : src.view.WordExact}
    {w₂ : ((outM.slice (Rect.unit (s := S16x25x1024) (k0_off3 c (BitVec.ofNat 32 n')) S1x25x1024.size i₁) (fun _ => rfl)).squeeze S25x1024 squeezes_S1x25x1024_S25x1024).view.WordExact}
    {k : PUnit → Pr F α} (h : iprop(sentSt SB K c n' ∗ R) ⊢ runs c (k ⟨⟩) Q) :
    iprop(sentSt SB K c n ∗ R) ⊢ runs c (Prog.lift (.waitDma2
      ((cc0_scratch2.slice (Rect.unit (s := S16) ![n'] S1.size i₃)).squeeze S_ squeezes_S1_S_).sem src
      ((outM.slice (Rect.unit (s := S16x25x1024) (k0_off3 c (BitVec.ofNat 32 n')) S1x25x1024.size i₁) (fun _ => rfl)).squeeze S25x1024 squeezes_S1x25x1024_S25x1024)
      w₁ w₂) >>= k) Q :=
  then_sent n n' e h' (sem_out ⟨n', h'⟩ rfl _) (by rw [slab_of outM _ (off3 ⟨n', h'⟩ c) _]) h

/-! ## The device's own slab -/

theorem own_row {o : Fin 3 → ℕ} (ho : o = ![c.val, 0, 0]) (i : ∀ a, o a + S1x25x1024.size a ≤ S16x25x1024.size a)
    (y : S16x25x1024.Idx) (hy : y ∈ (Rect.unit (s := S16x25x1024) o S1x25x1024.size i).toLoadRect.set) : y ∈ inSlab c := by
  subst ho
  have h0 : c.val ≤ (y 0).val ∧ (y 0).val < c.val + 1 := Rect.mem_set_unit.mp hy 0
  exact Finset.mem_filter.mpr ⟨Finset.mem_univ _, by omega⟩

theorem own_emb {o : Fin 3 → ℕ} (ho : o = ![c.val, 0, 0]) (i : ∀ a, o a + S1x25x1024.size a ≤ S16x25x1024.size a)
    (y : S1x25x1024.Idx) : (Rect.unit (s := S16x25x1024) o S1x25x1024.size i).emb y ∈ inSlab c := by
  subst ho
  have h0 : (y 0).val < 1 := (y 0).isLt
  refine Finset.mem_filter.mpr ⟨Finset.mem_univ _, ?_⟩
  show c.val + 1 * (y 0).val = c.val
  omega

/-- The load of the device's own slab. -/
theorem then_own {f : Slabs F} {i : ∀ a, k0_off4 c a + S1x25x1024.size a ≤ S16x25x1024.size a}
    {w : outM.view.LoadsAt (Rect.unit (s := S16x25x1024) (k0_off4 c) S1x25x1024.size i).toLoadRect} {k : Vec F S1x25x1024 .bf16 → Pr F α}
    (h : iprop(outPts c c f ∗ R)
      ⊢ runs c (k (outM.view.readAt (Elt F) (Rect.unit (s := S16x25x1024) (k0_off4 c) S1x25x1024.size i).toLoadRect f)) Q) :
    iprop(outPts c c f ∗ R) ⊢ runs c (Prog.lift (.load outM (Rect.unit (s := S16x25x1024) (k0_off4 c) S1x25x1024.size i).toLoadRect w) >>= k) Q := by
  refine then_load (S := (slab outM c).view.set) ?_ ?_ h
  · rw [slab_set_out]
    intro x hx
    obtain ⟨y, hy, rfl⟩ := Finset.mem_map.mp hx
    exact own_row (off4 c) i y hy
  · iintro ⟨H, HR⟩
    isplitl [H]; · iexact H
    iintro H
    isplitl [H]; · iexact H
    iexact HR

/-- The dead load of the device's own slot. -/
theorem then_slot_peek {r : LoadRect S16x25x1024} (hr : ∀ y ∈ r.set, y ∈ inSlab c) {w : inM.view.LoadsAt r} {k : Vec F r.shape .bf16 → Pr F α}
    (h : ∀ v, iprop(iprop(∃ f, inPts c c f) ∗ R) ⊢ runs c (k v) Q) :
    iprop(iprop(∃ f, inPts c c f) ∗ R) ⊢ runs c (Prog.lift (.load inM r w) >>= k) Q := by
  refine then_load_any (S := (slab inM c).view.set) ?_ ?_ h
  · rw [slab_set_in]
    intro x hx
    obtain ⟨y, hy, rfl⟩ := Finset.mem_map.mp hx
    exact hr y hy
  · iintro ⟨⟨%f, H⟩, HR⟩
    iexists f
    isplitl [H]; · iexact H
    iintro H
    isplitl [H]; · iexists f; iexact H
    iexact HR

theorem own_write {o : Fin 3 → ℕ} (ho : o = ![c.val, 0, 0]) (i : ∀ a, o a + S1x25x1024.size a ≤ S16x25x1024.size a) (g f : Slabs F)
    (x : S16x25x1024.Idx) (hx : (x 0).val = c.val) :
    (inM.access (Rect.unit (s := S16x25x1024) o S1x25x1024.size i)).write (Elt F) g
      (Gen.k0_pay58 (outM.view.readAt (Elt F) (Rect.unit (s := S16x25x1024) o S1x25x1024.size i).toLoadRect f)) Finset.univ x = f x := by
  subst ho
  obtain ⟨a, b, rfl⟩ := slab_idx x c hx
  conv_lhs => rw [← rect_slab c i a b]
  refine (View.write_emb_of_mem (v := inM.access _) _ _ (Finset.mem_univ _)).trans ?_
  have e : Gen.k0_pay58 (outM.view.readAt (Elt F) (Rect.unit (s := S16x25x1024) ![c.val, 0, 0] S1x25x1024.size i).toLoadRect f) (ix3 0 a b)
      = f ((Rect.unit (s := S16x25x1024) ![c.val, 0, 0] S1x25x1024.size i).emb (ix3 0 a b : S1x25x1024.Idx)) := by
    simp only [Gen.k0_pay58]
    pointwise
    rfl
  exact e.trans (congrArg f (rect_slab c i a b))

/-- The store of the device's own slab in its own slot. -/
theorem then_own_store {f : Slabs F} (hf : f = SB c) {i : ∀ a, k0_off4 c a + S1x25x1024.size a ≤ S16x25x1024.size a}
    {w₁ : (inM.access (Rect.unit (s := S16x25x1024) (k0_off4 c) S1x25x1024.size i)).Stores Finset.univ}
    {w₂ : Finset.univ = Finset.univ ∨ ∀ a, (Rect.unit (s := S16x25x1024) (k0_off4 c) S1x25x1024.size i).stride a = 1} {k : PUnit → Pr F α}
    (h : iprop(inPts c c (got SB c) ∗ R) ⊢ runs c (k ⟨⟩) Q) :
    iprop(iprop(∃ f, inPts c c f) ∗ R) ⊢ runs c (Prog.lift (.store inM (Rect.unit (s := S16x25x1024) (k0_off4 c) S1x25x1024.size i)
      (Gen.k0_pay58 (outM.view.readAt (Elt F) (Rect.unit (s := S16x25x1024) (k0_off4 c) S1x25x1024.size i).toLoadRect f)) Finset.univ w₁ w₂) >>= k) Q := by
  subst hf
  refine then_store (S := (slab inM c).view.set) (P' := iprop(inPts c c (got SB c) ∗ R)) ?_ ?_ h
  · rw [slab_set_in]
    intro x hx
    obtain ⟨y, -, rfl⟩ := Finset.mem_map.mp hx
    exact own_emb (off4 c) i y
  · iintro ⟨⟨%g, H⟩, HR⟩
    iexists g
    isplitl [H]; · iexact H
    iintro H
    isplitl [H]
    · have e : (inPts c c ((inM.access (Rect.unit (s := S16x25x1024) (k0_off4 c) S1x25x1024.size i)).write (Elt F) g
          (Gen.k0_pay58 (outM.view.readAt (Elt F) (Rect.unit (s := S16x25x1024) (k0_off4 c) S1x25x1024.size i).toLoadRect (SB c))) Finset.univ) : sProp 𝕄)
          = inPts c c (got SB c) := by
        refine inPts_congr c c _ _ fun x hx => (own_write (off4 c) i g (SB c) x hx).trans ?_
        obtain ⟨a, b, rfl⟩ := slab_idx x c hx
        rfl
      rw [← e]; iexact H
    iexact HR

end Cert.Moe
-- ==== Proof.Pass.lean ====
/-
  The passages between the phases of the body.
-/
module

public import proofs.«01_k».proof.Proof.Phase

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {I : Ins F} {A B R Z : sProp (MT nD τ sig Unit (Elt F) ℕ UU ℕ)}
variable {SB : Dev nD → Slabs F} {K : GSem nD τ sig → ℕ}

/-- The first two of what is held change places. -/
theorem swap (h : iprop(B ∗ A ∗ R) ⊢ Z) : iprop(A ∗ B ∗ R) ⊢ Z := by
  refine BIBase.Entails.trans ?_ h
  iintro ⟨HA, HB, HR⟩
  isplitl [HB]; · iexact HB
  isplitl [HA]; · iexact HA
  iexact HR

theorem pr_zero (c : Dev nD) : pr 0 c = c := by
  have hc : c.val < 16 := c.isLt
  apply Fin.ext; simp only [pr]; show (c.val + 0) % 16 = c.val; omega

/-- Something for every slab is that thing for the device's own and for each of the others. -/
theorem round (c : Dev nD) (Φ : Fin 16 → sProp 𝕄) : (bigSep Finset.univ Φ : sProp 𝕄) = iprop(Φ c ∗ bigSep (ahead 0) fun o => Φ (pr o c)) := by
  have e : (bigSep Finset.univ Φ : sProp 𝕄) = bigSep Finset.univ fun o : Fin 16 => Φ (pr o c) := bigSep_univ_equiv (around c) Φ
  have e' : (Finset.univ : Finset (Fin 16)) = insert 0 (ahead 0) := by decide
  rw [e]
  conv_lhs => rw [e', bigSep_insert (by decide), pr_zero]
  rfl

/-- The right to start the copy with offset `o`. -/
def sendTok (c : Dev nD) (o : Fin 16) : sProp 𝕄 :=
  iprop(dutyTok ER (sendCell c o) 0 0 ∗ reached ER (sendCell c o) 0 ∗ dutyTok ER (recvCell (pr o c) c) 0 0)

/-- What the body needs after the signals besides the staged inputs, without the buffer of slabs to send. -/
def later (c : Dev nD) : sProp 𝕄 :=
  iprop((∃ f, inPts (F := F) c c f) ∗ (∃ o, winOut (F := F) c o) ∗ bigSep (ahead 0) (sendTok (F := F) c) ∗ bigSep (ahead 0) (recvRes (F := F) c)
    ∗ bigSep (ahead 0) (sentPos (F := F) c))

/-- With the buffer. -/
def work (c : Dev nD) : sProp 𝕄 := iprop((∃ f, outWhole (F := F) c f) ∗ later c)

/-- Held while the slabs are made. -/
def mid (SB : Dev nD → Slabs F) (K : GSem nD τ sig → ℕ) (c : Dev nD) : sProp 𝕄 := iprop(barDone SB K c ∗ later c)

/-- Held, besides the own slab and slot, while the copies go out. -/
def during (c : Dev nD) (I : Ins F) : sProp 𝕄 :=
  iprop(wins c I ∗ (∃ o, winOut (F := F) c o) ∗ bigSep (ahead 0) (recvRes (F := F) c) ∗ bigSep (ahead 0) (sentPos (F := F) c) ∗ atPos ER (barCell c) 1 ∅ 0)

/-- Held, besides the slots, while the copies come in. -/
def after (SB : Dev nD → Slabs F) (K : GSem nD τ sig → ℕ) (c : Dev nD) (I : Ins F) : sProp 𝕄 :=
  iprop(wins c I ∗ outPts c c (SB c) ∗ bigSep (ahead 0) (sentRes (F := F) c) ∗ bigSep (ahead 0) (sentPos (F := F) c) ∗ atPos ER (barCell c) 1 ∅ 0)

/-- What the body leaves. -/
def fin (SB : Dev nD → Slabs F) (K : GSem nD τ sig → ℕ) (c : Dev nD) (I : Ins F) : sProp 𝕄 :=
  iprop(invs SB K ∗ wins c I ∗ winOut c (outOf (got SB c)) ∗ outWhole c (SB c) ∗ inWhole c (got SB c) ∗ ow c 0
    ∗ atPos ER (barCell c) 1 ∅ 0 ∗ bigSep (ahead 0) (fun o => atPos ER (recvCell c (pr o c)) 1 ∅ 0) ∗ bigSep (ahead 0) fun o => atPos ER (sendCell c o) 1 ∅ 0)

theorem pass_store (f : Slabs F) : iprop(barDone SB K c ∗ wins c I ∗ work c) ⊢ (iprop(stored c f 0 ∗ wins c I ∗ mid SB K c) : sProp 𝕄) := by
  unfold work mid stored
  iintro ⟨HB, HW, ⟨%g, H⟩, HL⟩
  isplitl [H]
  · iexists g
    isplitr; · ipureintro; intro i hi; exact absurd hi (Nat.not_lt_zero _)
    iexact H
  isplitl [HW]; · iexact HW
  isplitl [HB]; · iexact HB
  iexact HL

theorem stored_all {f : Slabs F} : (stored c f 16 : sProp 𝕄) ⊢ outWhole c f := by
  unfold stored
  iintro ⟨%g, %hg, H⟩
  have e : g = f := funext fun i => hg i (i 0).isLt
  subst e
  iexact H

theorem send_all (f : Slabs F) (hf : f = SB c) :
    iprop(bigSep (ahead 0) (fun o => outPts c (pr o c) f) ∗ bigSep (ahead 0) (fun o => barPay (F := F) c (pr o c)) ∗ bigSep (ahead 0) (sendTok (F := F) c))
      ⊢ (bigSep (ahead 0) (sendRes SB c) : sProp 𝕄) := by
  subst hf
  rw [← bigSep_sep', ← bigSep_sep']
  refine bigSep_mono fun o _ => ?_
  unfold sendRes sendTok
  show (_ : sProp 𝕄) ⊢ _
  iintro ⟨H1, H2, H3, H4, H5⟩
  isplitl [H1]; · iexact H1
  isplitl [H2]; · iexact H2
  isplitl [H3]; · iexact H3
  isplitl [H4]; · iexact H4
  iexact H5

theorem pass_send (f : Slabs F) (hf : f = SB c) : iprop(stored c f 16 ∗ wins c I ∗ mid SB K c)
    ⊢ (iprop(sendSt SB K c 0 ∗ outPts c c f ∗ iprop(∃ f, inPts c c f) ∗ during c I) : sProp 𝕄) := by
  unfold mid barDone later sendSt during
  iintro ⟨HS, HW, ⟨#I, HB, HA, HO⟩, Hi, Ho, Ht, Hr, Hp⟩
  ihave HS := stored_all $$ HS
  ihave HS := (Entails.of_eq ((outWhole_eq c f).trans (round c _))) $$ HS
  icases HS with ⟨H0, HS⟩
  ihave HSR := (send_all (SB := SB) f hf) $$ [HS HB Ht]
  · isplitl [HS]; · iexact HS
    isplitl [HB]; · iexact HB
    iexact Ht
  isplitl [HSR HO]
  · isplitr; · iexact I
    isplitl [HSR]; · iexact HSR
    isplitr; · rw [past_start, bigSep_empty]; iempintro
    iexact HO
  isplitl [H0]; · iexact H0
  isplitl [Hi]; · iexact Hi
  isplitl [HW]; · iexact HW
  isplitl [Ho]; · iexact Ho
  isplitl [Hr]; · iexact Hr
  isplitl [Hp]; · iexact Hp
  iexact HA

theorem pass_recv : iprop(inPts c c (got SB c) ∗ outPts c c (SB c) ∗ sendSt SB K c 15 ∗ during c I)
    ⊢ (iprop(recvSt SB K c 0 ∗ inPts c c (got SB c) ∗ iprop(∃ o, winOut (F := F) c o) ∗ after SB K c I) : sProp 𝕄) := by
  unfold sendSt during recvSt after
  rw [owR_end, past_all, ← ahead_all]
  iintro ⟨Hi, Ho, ⟨#I, -, Hs, HO⟩, HW, Hw, Hr, Hp, HA⟩
  isplitl [Hr HO]
  · isplitr; · iexact I
    isplitl [Hr]; · iexact Hr
    isplitr; · rw [past_start, bigSep_empty]; iempintro
    iexact HO
  isplitl [Hi]; · iexact Hi
  isplitl [Hw]; · iexact Hw
  isplitl [HW]; · iexact HW
  isplitl [Ho]; · iexact Ho
  isplitl [Hs]; · iexact Hs
  isplitl [Hp]; · iexact Hp
  iexact HA

/-- The invariants, what is owed, and where the receive cells stand. -/
def came (SB : Dev nD → Slabs F) (K : GSem nD τ sig → ℕ) (c : Dev nD) : sProp 𝕄 :=
  iprop(invs SB K ∗ ow c 0 ∗ bigSep (ahead 0) (fun o => atPos ER (recvCell c (pr o c)) 1 ∅ 0))

theorem pass_read : iprop(recvSt SB K c 15 ∗ inPts c c (got SB c) ∗ iprop(∃ o, winOut (F := F) c o) ∗ after SB K c I)
    ⊢ (iprop(inWhole c (got SB c) ∗ iprop(∃ o, winOut (F := F) c o) ∗ came SB K c ∗ after SB K c I) : sProp 𝕄) := by
  unfold recvSt came
  rw [past_all, ← ahead_all]
  iintro ⟨⟨#I, -, Hd, HO⟩, Hi, Hw, Haf⟩
  have e : (bigSep (ahead 0) (recvDone SB c) : sProp 𝕄)
      = iprop(bigSep (ahead 0) (fun o => inPts c (pr o c) (got SB c)) ∗ bigSep (ahead 0) (fun o => atPos ER (recvCell c (pr o c)) 1 ∅ 0)) := by
    rw [← bigSep_sep']; rfl
  ihave Hd := (Entails.of_eq e) $$ Hd
  icases Hd with ⟨Hd, Ha⟩
  isplitl [Hi Hd]
  · rw [inWhole_eq, round c]
    isplitl [Hi]; · iexact Hi
    iexact Hd
  isplitl [Hw]; · iexact Hw
  isplitl [HO Ha]
  · isplitr; · iexact I
    isplitl [HO]; · iexact HO
    iexact Ha
  iexact Haf

/-- Held, besides the copies gone out, until the end. -/
def rest (SB : Dev nD → Slabs F) (c : Dev nD) (I : Ins F) : sProp 𝕄 :=
  iprop(wins c I ∗ winOut c (outOf (got SB c)) ∗ outPts c c (SB c) ∗ inWhole c (got SB c) ∗ atPos ER (barCell c) 1 ∅ 0
    ∗ bigSep (ahead 0) (fun o => atPos ER (recvCell c (pr o c)) 1 ∅ 0))

theorem pass_sent : iprop(winOut c (outOf (got SB c)) ∗ inWhole c (got SB c) ∗ came SB K c ∗ after SB K c I)
    ⊢ (iprop(sentSt SB K c 0 ∗ rest SB c I) : sProp 𝕄) := by
  unfold came after sentSt rest
  iintro ⟨Hw, Hi, ⟨#I, HO, Ha⟩, HW, Ho, Hs, Hp, HA⟩
  isplitl [Hs Hp HO]
  · isplitr; · iexact I
    isplitl [Hs]; · iexact Hs
    isplitl [Hp]; · iexact Hp
    isplitr; · rw [past_start, bigSep_empty]; iempintro
    iexact HO
  isplitl [HW]; · iexact HW
  isplitl [Hw]; · iexact Hw
  isplitl [Ho]; · iexact Ho
  isplitl [Hi]; · iexact Hi
  isplitl [HA]; · iexact HA
  iexact Ha

theorem pass_end : iprop(sentSt SB K c 15 ∗ rest SB c I) ⊢ (fin SB K c I : sProp 𝕄) := by
  unfold sentSt rest fin
  rw [past_all, ← ahead_all]
  iintro ⟨⟨#I, -, -, Hd, HO⟩, HW, Hw, Ho, Hi, HA, Ha⟩
  have e : (bigSep (ahead 0) (sentDone SB c) : sProp 𝕄)
      = iprop(bigSep (ahead 0) (fun o => outPts c (pr o c) (SB c)) ∗ bigSep (ahead 0) (fun o => atPos ER (sendCell c o) 1 ∅ 0)) := by
    rw [← bigSep_sep']; rfl
  ihave Hd := (Entails.of_eq e) $$ Hd
  icases Hd with ⟨Hd, Hp⟩
  isplitr; · iexact I
  isplitl [HW]; · iexact HW
  isplitl [Hw]; · iexact Hw
  isplitl [Ho Hd]
  · rw [outWhole_eq, round c]
    isplitl [Ho]; · iexact Ho
    iexact Hd
  isplitl [Hi]; · iexact Hi
  isplitl [HO]; · iexact HO
  isplitl [HA]; · iexact HA
  isplitl [Ha]; · iexact Ha
  iexact Hp

end Cert.Moe
-- ==== Proof.Launch.lean ====
/-
  The launch of the exchange: the cells, the tokens of all duties and how they are dealt to the devices that pay them, the credit a
  device's cells start with, and the opening and closing of a device's own cells.
-/
module

public import proofs.«01_k».proof.Proof.Pass

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {SB : Dev nD → Slabs F} {K : GSem nD τ sig → ℕ}

/-! ## Cells and tokens -/

/-- A device's own semaphores: sixteen for what it sends, sixteen for what it receives. -/
abbrev osem (k : Fin 2 × Fin 16) : SemLoc sig := if k.1 = 0 then .dma (sendS k.2) else .dma (recvS k.2)

theorem osem_facts : Pipeline.OwnSemFacts spec0 osem := by decide +kernel
theorem osem_ne_bar (k : Fin 2 × Fin 16) : osem k ≠ .reg barS := by
  unfold osem; split <;> exact fun h => nomatch h

abbrev barEmb : Dev nD ↪ GSem nD τ sig := ⟨fun c => barCell c, fun _ _ h => congrArg (fun g : GSem nD τ sig => g.1.1) h⟩
abbrev ownEmb : Dev nD × (Fin 2 × Fin 16) ↪ GSem nD τ sig :=
  ⟨fun x => ((x.1 : Thread nD τ), osem x.2), fun _ _ h =>
    Prod.ext (congrArg (fun g : GSem nD τ sig => g.1.1) h) (osem_facts.inj (congrArg Prod.snd h))⟩

abbrev barCells : Finset (GSem nD τ sig) := Finset.univ.map barEmb
abbrev ownCells : Finset (GSem nD τ sig) := Finset.univ.map ownEmb

/-- The duties' tokens: of a barrier cell one for every device, of a send or a receive cell one. -/
def token (x : (Dev nD × Dev nD) ⊕ (Dev nD × (Fin 2 × Fin 16))) : GSem nD τ sig × ℕ × Dev nD := match x with
  | .inl y => (barCell y.1, 0, y.2)
  | .inr y => (ownEmb y, 0, 0)

theorem token_inj : Function.Injective token := by
  rintro (x | x) (y | y) h
  · exact congrArg Sum.inl (Prod.ext (congrArg (fun t : GSem nD τ sig × ℕ × Dev nD => t.1.1.1) h)
      (congrArg (fun t : GSem nD τ sig × ℕ × Dev nD => t.2.2) h))
  · exact absurd (congrArg (fun t : GSem nD τ sig × ℕ × Dev nD => t.1.2) h).symm (osem_ne_bar y.2)
  · exact absurd (congrArg (fun t : GSem nD τ sig × ℕ × Dev nD => t.1.2) h) (osem_ne_bar x.2)
  · exact congrArg Sum.inr (ownEmb.injective (congrArg Prod.fst h))

def tokens : Finset (GSem nD τ sig × ℕ × Dev nD) := Finset.univ.map ⟨token, token_inj⟩

theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ barCells ∪ ownCells :=
  Finset.mem_union_left _ (Finset.mem_map_of_mem barEmb (Finset.mem_univ c))
theorem send_mem (c : Dev nD) (o : Fin 16) : sendCell c o ∈ barCells ∪ ownCells :=
  Finset.mem_union_right _ (Finset.mem_map_of_mem ownEmb (Finset.mem_univ (c, ((0 : Fin 2), o))))
theorem recv_mem (c : Dev nD) (s : Fin 16) : recvCell c s ∈ barCells ∪ ownCells :=
  Finset.mem_union_right _ (Finset.mem_map_of_mem ownEmb (Finset.mem_univ (c, ((1 : Fin 2), s))))

/-- Something for every one of a device's own cells is that thing for its send cells and for its receive cells. -/
theorem own_split (c : Dev nD) (Φ : GSem nD τ sig → sProp 𝕄) :
    (bigSep Finset.univ fun k : Fin 2 × Fin 16 => Φ ((c : Thread nD τ), osem k))
      = (iprop((bigSep Finset.univ fun o => Φ (sendCell c o)) ∗ bigSep Finset.univ fun s => Φ (recvCell c s)) : sProp 𝕄) := by
  rw [bigSep_univ_prod, BI.bigSep_fin_two]; rfl

theorem join {J : Type} {S : Finset J} {Φ Ψ : J → sProp 𝕄} : (iprop(bigSep S Φ ∗ bigSep S Ψ) : sProp 𝕄) ⊢ bigSep S fun j => iprop(Φ j ∗ Ψ j) :=
  Entails.of_eq (bigSep_sep' _ _ _).symm
theorem part {J : Type} {S : Finset J} {Φ Ψ : J → sProp 𝕄} : (bigSep S fun j => (iprop(Φ j ∗ Ψ j) : sProp 𝕄)) ⊢ iprop(bigSep S Φ ∗ bigSep S Ψ) :=
  Entails.of_eq (bigSep_sep' _ _ _)

theorem round_zero (Φ : Fin 16 → sProp 𝕄) : (bigSep Finset.univ Φ : sProp 𝕄) = iprop(Φ 0 ∗ bigSep (ahead 0) Φ) := by
  have e' : (Finset.univ : Finset (Fin 16)) = insert 0 (ahead 0) := by decide
  conv_lhs => rw [e', bigSep_insert (by decide)]
  rfl

/-! ## What everyone may use -/

/-- All cells' invariants, and that every barrier cell is open. -/
def records (SB : Dev nD → Slabs F) (K : GSem nD τ sig → ℕ) : sProp 𝕄 :=
  iprop((bigSep (barCells ∪ ownCells) fun g => cellInv ER (talkRd SB) (K g) g) ∗ bigSep barCells fun g => reached ER g 0)

instance records_persistent : BI.Persistent (records SB K) := by unfold records; infer_instance

theorem records_cell {g : GSem nD τ sig} (hg : g ∈ barCells ∪ ownCells) : (records SB K : sProp 𝕄) ⊢ cellInv ER (talkRd SB) (K g) g := by
  have key := bigSep_elim hg (Φ := fun g => (cellInv ER (talkRd SB) (K g) g : sProp 𝕄))
  exact (show (records SB K : sProp 𝕄) ⊢ _ by unfold records; iintro ⟨H, -⟩; iexact H).trans key
theorem records_open (p : Dev nD) : (records SB K : sProp 𝕄) ⊢ reached ER (barCell p) 0 := by
  have key := bigSep_elim (Finset.mem_map_of_mem barEmb (Finset.mem_univ p)) (Φ := fun g => (reached ER g 0 : sProp 𝕄))
  exact (show (records SB K : sProp 𝕄) ⊢ _ by unfold records; iintro ⟨-, H⟩; iexact H).trans key

/-- What follows for each thing from something that stays follows for all of them. -/
theorem for_all {J : Type} [Fintype J] [DecidableEq J] {R : sProp 𝕄} [BI.Persistent R] {Φ : J → sProp 𝕄} (h : ∀ j, R ⊢ Φ j) :
    R ⊢ bigSep Finset.univ Φ :=
  (show R ⊢ iprop(R ∗ bigSep Finset.univ fun _ : J => (BI.emp : sProp 𝕄)) by
    rw [BI.bigSep_emp_const]; iintro H; isplitl [H]; · iexact H
    iempintro).trans
  (bigSep_with_persistent (R := R) fun j _ => (show iprop(R ∗ (BI.emp : sProp 𝕄)) ⊢ R by iintro ⟨H, -⟩; iexact H).trans (h j))

theorem records_invs : (records SB K : sProp 𝕄) ⊢ invs SB K := by
  unfold invs
  iintro #H
  isplitr
  · iapply (for_all (R := records SB K) (Φ := fun p : Dev nD => iprop(cellInv ER (talkRd SB) (K (barCell p)) (barCell p) ∗ reached ER (barCell p) 0))
      fun p => by
        iintro #H
        isplitr
        · iapply (records_cell (bar_mem p)); iexact H
        · iapply (records_open p); iexact H)
    iexact H
  isplitr
  · iapply (for_all (R := records SB K) (Φ := fun x : Dev nD × Fin 16 => cellInv ER (talkRd SB) (K (sendCell x.1 x.2)) (sendCell x.1 x.2))
      fun x => records_cell (send_mem x.1 x.2))
    iexact H
  · iapply (for_all (R := records SB K) (Φ := fun x : Dev nD × Fin 16 => cellInv ER (talkRd SB) (K (recvCell x.1 x.2)) (recvCell x.1 x.2))
      fun x => records_cell (recv_mem x.1 x.2))
    iexact H

/-! ## The tokens dealt -/

/-- What a device is dealt: its place at its barrier cell, the right to open its own cells, the tokens of the duties it pays. -/
def dealt (c : Dev nD) : sProp 𝕄 :=
  iprop(atPos ER (barCell c) 0 ∅ 0
    ∗ ((bigSep Finset.univ fun o => openTok ER (sendCell c o)) ∗ bigSep Finset.univ fun s => openTok ER (recvCell c s))
    ∗ (bigSep (ahead 0) fun o => dutyTok ER (barCell (pr o c)) 0 c)
    ∗ (bigSep (ahead 0) fun o => dutyTok ER (sendCell c o) 0 0)
    ∗ (bigSep (ahead 0) fun o => dutyTok ER (recvCell (pr o c) c) 0 0))

theorem tokens_eq : bigSep tokens (fun x => (dutyTok ER x.1 x.2.1 x.2.2 : sProp 𝕄))
    = iprop((bigSep Finset.univ fun p : Dev nD => bigSep Finset.univ fun d : Dev nD => dutyTok ER (barCell p) 0 d)
      ∗ (bigSep Finset.univ fun c : Dev nD => iprop((bigSep Finset.univ fun o => dutyTok ER (sendCell c o) 0 0)
        ∗ bigSep Finset.univ fun s => dutyTok ER (recvCell c s) 0 0))) := by
  unfold tokens
  rw [bigSep_map]
  refine (BI.bigSep_univ_sum _).trans ?_
  rw [bigSep_univ_prod, bigSep_univ_prod]
  refine congrArg₂ _ rfl (bigSep_congr fun c _ => own_split c fun g => dutyTok ER g 0 0)

/-- Something for every device and every slot is, counted from the slot's owner, that thing for each of the other devices. -/
theorem deal (Φ : Dev nD → Dev nD → sProp 𝕄) :
    (bigSep Finset.univ fun p : Dev nD => bigSep Finset.univ fun d : Dev nD => Φ p d)
      ⊢ bigSep Finset.univ fun d : Dev nD => bigSep (ahead 0) fun o => Φ (pr o d) d := by
  rw [bigSep_univ_comm]
  refine bigSep_mono fun d _ => ?_
  rw [round d fun p => Φ p d]
  show (_ : sProp 𝕄) ⊢ _
  iintro ⟨-, H⟩; iexact H

theorem drop_zero (Φ : Fin 16 → sProp 𝕄) : (bigSep Finset.univ Φ : sProp 𝕄) ⊢ bigSep (ahead 0) Φ := by
  rw [round_zero]; iintro ⟨-, H⟩; iexact H

/-- Every device gets the tokens of the duties it pays. -/
theorem tokens_deal : bigSep tokens (fun x => (dutyTok ER x.1 x.2.1 x.2.2 : sProp 𝕄))
    ⊢ bigSep Finset.univ fun c : Dev nD => iprop((bigSep (ahead 0) fun o => dutyTok ER (barCell (pr o c)) 0 c)
      ∗ (bigSep (ahead 0) fun o => dutyTok ER (sendCell c o) 0 0)
      ∗ (bigSep (ahead 0) fun o => dutyTok ER (recvCell (pr o c) c) 0 0)) := by
  rw [tokens_eq]
  iintro ⟨HB, HO⟩
  ihave HO' := part $$ HO
  icases HO' with ⟨HS, HR⟩
  iapply join; isplitl [HB]
  · iapply (deal fun p d => dutyTok ER (barCell p) 0 d) $$ HB
  iapply join; isplitl [HS]
  · iapply (show (bigSep Finset.univ fun c : Dev nD => bigSep Finset.univ fun o => (dutyTok ER (sendCell c o) 0 0 : sProp 𝕄))
      ⊢ bigSep Finset.univ fun c : Dev nD => bigSep (ahead 0) fun o => dutyTok ER (sendCell c o) 0 0 from
      bigSep_mono fun c _ => drop_zero fun o => dutyTok ER (sendCell c o) 0 0) $$ HS
  · iapply (deal fun p d => dutyTok ER (recvCell p d) 0 0) $$ HR

/-! ## The credit the cells start with -/

/-- What every device owes at the start. -/
abbrev O₀ (c : Dev nD) : CellTallies nD τ sig Unit := owS c 0

theorem recv_ne_bar (c c' : Dev nD) (s : Fin 16) : recvCell c s ≠ barCell c' := fun h => nomatch congrArg Prod.snd h

theorem owed_bar (d c : Dev nD) : O₀ d (barCell c) () = ∑ o ∈ ahead 0, if pr o d = c then 1 else 0 := by
  unfold O₀ owS owR
  rw [Pi.add_apply, Finsupp.add_apply, Finset.sum_apply, Finset.sum_apply, Finsupp.finset_sum_apply, Finsupp.finset_sum_apply,
    Finset.sum_eq_zero fun o _ => ?_, Nat.zero_add]
  · refine Finset.sum_congr rfl fun o _ => ?_
    rw [tallyAt_apply]
    refine if_congr ⟨fun h => (congrArg (fun g : GSem nD τ sig => g.1.1) h.1).symm, fun h => ⟨h ▸ rfl, rfl⟩⟩ rfl rfl
  · rw [tallyAt_apply, if_neg fun h => recv_ne_bar _ _ _ h.1.symm]

theorem owed_recv (d c : Dev nD) (s : Fin 16) : O₀ d (recvCell c s) () = ∑ o ∈ ahead 0, if pr o d = c ∧ d = s then N else 0 := by
  unfold O₀ owS owR
  rw [Pi.add_apply, Finsupp.add_apply, Finset.sum_apply, Finset.sum_apply, Finsupp.finset_sum_apply, Finsupp.finset_sum_apply,
    add_comm, Finset.sum_eq_zero fun o _ => ?_, Nat.zero_add]
  · refine Finset.sum_congr rfl fun o _ => ?_
    rw [tallyAt_apply]
    refine if_congr ⟨fun h => ⟨(congrArg (fun g : GSem nD τ sig => g.1.1) h.1).symm, ?_⟩, fun h => ⟨by rw [h.1, ← h.2], rfl⟩⟩ rfl rfl
    have := congrArg (fun g : GSem nD τ sig => g.2) h.1
    have := SemLoc.dma.inj this
    have := congrArg Fin.val this
    exact Fin.ext (by simp at this; omega)
  · rw [tallyAt_apply, if_neg fun h => recv_ne_bar _ _ _ h.1]

theorem count_bar : ∀ c : Fin 16, (∑ d : Fin 16, ∑ o ∈ ahead 0, if pr o d = c then 1 else 0) = 15 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  exact count_bar c

theorem launch_recv (c : Dev nD) (o : Fin 16) (ho : o ∈ ahead 0) :
    tallyOn (recvCell c (pr o c)) (launchCredit (Pipeline.owing O₀) 0 (recvCell c (pr o c)))
      = (tallyAt (recvCell c (pr o c)) () N : CellTallies nD τ sig Unit) := by
  unfold tallyAt; refine congrArg _ (Finsupp.ext fun u => ?_); cases u
  rw [Pipeline.launchCredit_owing, Finsupp.single_eq_same, Finset.sum_congr rfl fun d _ => owed_recv d c (pr o c)]
  have hne : pr o c ≠ c := pr_ne o (Finset.mem_filter.mp ho).2 c
  rw [Finset.sum_eq_single (pr o c) (fun d _ hd => Finset.sum_eq_zero fun o' _ => if_neg fun h => hd h.2) (fun h => absurd (Finset.mem_univ _) h)]
  have hback : pr (off (pr o c) c) (pr o c) = c := pr_off _ _
  have hmem : off (pr o c) c ∈ ahead 0 := by
    rw [ahead_all]
    refine Finset.mem_erase.mpr ⟨fun h => hne ?_, Finset.mem_univ _⟩
    rw [h, pr_zero] at hback; exact hback
  rw [Finset.sum_eq_single (off (pr o c) c) (fun o' _ ho' => if_neg fun h => ho' ?_) (fun h => absurd hmem h), if_pos ⟨hback, rfl⟩]
  rw [← off_pr o' (pr o c), h.1]

abbrev recvEmb (c : Dev nD) : Fin 16 ↪ SemLoc sig :=
  ⟨fun o => .dma (recvS (pr o c)), fun o o' h => (around c).injective (by
    have := congrArg Fin.val (SemLoc.dma.inj h)
    exact Fin.ext (by simp at this; exact this))⟩

/-- A device's barrier cell starts with the fifteen units owed to it, each receive cell with its copy's. -/
theorem creds (c : Dev nD) :
    (Pipeline.launchCred O₀ c : sProp 𝕄) ⊢ iprop(cred (tallyAt (barCell c) () 15) ∗ bigSep (ahead 0) fun o => cred (tallyAt (recvCell c (pr o c)) () N)) := by
  unfold Pipeline.launchCred
  rw [bigSep_univ_at _ (SemLoc.reg barS), launch_bar]
  refine sep_mono_right ?_
  refine BIBase.Entails.trans (bigSep_subset (t := (ahead 0).map (recvEmb c)) fun x hx => ?_) ?_
  · obtain ⟨o, -, rfl⟩ := Finset.mem_map.mp hx
    exact Finset.mem_erase.mpr ⟨(nofun : SemLoc.dma (recvS (pr o c)) ≠ SemLoc.reg barS), Finset.mem_univ _⟩
  · rw [bigSep_map]
    exact bigSep_mono fun o ho => Entails.of_eq (congrArg cred (launch_recv c o ho))

/-! ## A device's own cells opened, and closed -/

/-- The send and the receive cell that nothing is sent through. -/
def idle (c : Dev nD) : sProp 𝕄 := iprop(atPos ER (sendCell c 0) 0 ∅ 0 ∗ atPos ER (recvCell c c) 0 ∅ 0)

/-- A device's own cells, none of them used yet. -/
def opened (c : Dev nD) : sProp 𝕄 :=
  iprop(idle c ∗ (bigSep (ahead 0) fun o => iprop(atPos ER (sendCell c o) 0 ∅ 0 ∗ reached ER (sendCell c o) 0))
    ∗ bigSep (ahead 0) fun o => iprop(atPos ER (recvCell c (pr o c)) 0 ∅ 0 ∗ reached ER (recvCell c (pr o c)) 0))

theorem open_own (c : Dev nD) :
    iprop(records SB K ∗ ((bigSep Finset.univ fun o => openTok ER (sendCell c o)) ∗ bigSep Finset.univ fun s => openTok ER (recvCell c s))
      ∗ Pipeline.ownSems0 osem c) ⊢ (|={Set.univ}=> opened c : sProp 𝕄) := by
  have key := Rounds.cells_open ER (talkRd SB) (Es := Set.univ) Finset.univ (fun k : Fin 2 × Fin 16 => (((c : Thread nD τ), osem k) : GSem nD τ sig))
    (fun k => K ((c : Thread nD τ), osem k)) fun k _ => Set.mem_univ _
  have hall : (records SB K : sProp 𝕄)
      ⊢ bigSep Finset.univ fun k : Fin 2 × Fin 16 => cellInv ER (talkRd SB) (K ((c : Thread nD τ), osem k)) ((c : Thread nD τ), osem k) :=
    for_all fun k => records_cell (Finset.mem_union_right _ (Finset.mem_map_of_mem ownEmb (Finset.mem_univ (c, k))))
  unfold Pipeline.ownSems0
  iintro ⟨#HR, HO, HV⟩
  imod key $$ [HO HV] with H
  · isplitl [HO]
    · iapply join
      isplitr; · iapply hall; iexact HR
      iapply (Entails.of_eq (own_split c fun g => (openTok ER g : sProp 𝕄)).symm); iexact HO
    · iexact HV
  imodintro
  ihave H' := (Entails.of_eq (own_split c fun g => (iprop(atPos ER g 0 ∅ 0 ∗ reached ER g 0) : sProp 𝕄))) $$ H
  rw [round_zero, round c]
  icases H' with ⟨⟨⟨H0, -⟩, HS⟩, ⟨Hc, -⟩, HR⟩
  unfold opened idle
  isplitl [H0 Hc]; · isplitl [H0] <;> iassumption
  isplitl [HS] <;> iassumption

theorem close_own (c : Dev nD) :
    iprop(invs SB K ∗ idle c ∗ (bigSep (ahead 0) fun o => atPos ER (sendCell c o) 1 ∅ 0) ∗ bigSep (ahead 0) fun o => atPos ER (recvCell c (pr o c)) 1 ∅ 0)
      ⊢ (|={Set.univ}=> Pipeline.ownSems0 osem c : sProp 𝕄) := by
  have kS := Rounds.cells_close ER (talkRd SB) (Es := Set.univ) Finset.univ (fun o : Fin 16 => sendCell c o) (fun o => K (sendCell c o))
    (fun _ _ => Set.mem_univ _) (fun _ _ h => h) (fun o => if o = 0 then 0 else 1) fun o _ r hr => by
      by_cases h : 1 ≤ r
      · exact duties_later SB _ r h
      · obtain rfl : r = 0 := by omega
        rw [duties_send]; split at hr
        · next h0 => exact if_pos h0
        · omega
  have kR := Rounds.cells_close ER (talkRd SB) (Es := Set.univ) Finset.univ (fun s : Fin 16 => recvCell c s) (fun s => K (recvCell c s))
    (fun _ _ => Set.mem_univ _) (fun _ _ h => h) (fun s => if s = c then 0 else 1) fun s _ r hr => by
      by_cases h : 1 ≤ r
      · exact duties_later SB _ r h
      · obtain rfl : r = 0 := by omega
        rw [duties_recv]; split at hr
        · next h0 => exact if_pos h0
        · omega
  have aS : (invs SB K : sProp 𝕄) ⊢ bigSep Finset.univ fun o : Fin 16 => cellInv ER (talkRd SB) (K (sendCell c o)) (sendCell c o) :=
    for_all fun o => inv_send SB K c o
  have aR : (invs SB K : sProp 𝕄) ⊢ bigSep Finset.univ fun s : Fin 16 => cellInv ER (talkRd SB) (K (recvCell c s)) (recvCell c s) :=
    for_all fun s => inv_recv SB K c s
  have pS : (iprop(atPos ER (sendCell c 0) 0 ∅ 0 ∗ bigSep (ahead 0) fun o => atPos ER (sendCell c o) 1 ∅ 0) : sProp 𝕄)
      ⊢ bigSep Finset.univ fun o : Fin 16 => atPos ER (sendCell c o) (if o = 0 then 0 else 1) ∅ 0 := by
    have e : ∀ o ∈ ahead 0, (atPos ER (sendCell c o) (if o = 0 then 0 else 1) ∅ 0 : sProp 𝕄) = atPos ER (sendCell c o) 1 ∅ 0 := fun o ho => by
      rw [if_neg (by rw [ahead_all] at ho; exact Finset.ne_of_mem_erase ho)]
    rw [round_zero, if_pos rfl, bigSep_congr e]
  have pR : (iprop(atPos ER (recvCell c c) 0 ∅ 0 ∗ bigSep (ahead 0) fun o => atPos ER (recvCell c (pr o c)) 1 ∅ 0) : sProp 𝕄)
      ⊢ bigSep Finset.univ fun s : Fin 16 => atPos ER (recvCell c s) (if s = c then 0 else 1) ∅ 0 := by
    have e : ∀ o ∈ ahead 0, (atPos ER (recvCell c (pr o c)) (if pr o c = c then 0 else 1) ∅ 0 : sProp 𝕄) = atPos ER (recvCell c (pr o c)) 1 ∅ 0 :=
      fun o ho => by rw [if_neg (pr_ne o (Finset.mem_filter.mp ho).2 c)]
    rw [round c, if_pos rfl, bigSep_congr e]
  unfold Pipeline.ownSems0 idle
  iintro ⟨#HI, ⟨H0, Hc⟩, HS, HR⟩
  imod kS $$ [H0 HS] with VS
  · iapply join
    isplitr; · iapply aS; iexact HI
    iapply pS; isplitl [H0] <;> iassumption
  imod kR $$ [Hc HR] with VR
  · iapply join
    isplitr; · iapply aR; iexact HI
    iapply pR; isplitl [Hc] <;> iassumption
  imodintro
  iapply (Entails.of_eq (own_split c fun g => (semVal g 0 : sProp 𝕄)).symm)
  isplitl [VS] <;> iassumption

end Cert.Moe
-- ==== Proof.Body.lean ====
/-
  The first half of the body, part by part: signals and the wait for them, the loads, the sixteen slabs stored.
-/
module

public import proofs.«01_k».proof.Proof.Pass

@[expose] public section

noncomputable section

namespace Cert.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Something that takes the body's buffers, given them. -/
abbrev onBufs {β : Type 1}
    (k : (arg0 : Memref sig .tc .vmem S1024x512 .f32) → arg0.IsWhole → (arg1 : Memref sig .tc .vmem S512x64 .f32) → arg1.IsWhole →
      (arg2 : Memref sig .tc .vmem S1024x2 .i32) → arg2.IsWhole → (arg3 : Memref sig .tc .vmem S4x512x1024 .bf16) → arg3.IsWhole →
      (arg4 : Memref sig .tc .vmem S1024x1024 .bf16) → arg4.IsWhole → (arg5 : Memref sig .tc .vmem S384x1024 .bf16) → arg5.IsWhole →
      (arg6 : Memref sig .tc .vmem S384x1024 .f32) → arg6.IsWhole → (arg7 : Memref sig .tc .vmem S64x1024 .f32) → arg7.IsWhole →
      (arg8 : Memref sig .tc .vmem S16x25x1024 .bf16) → arg8.IsWhole → (arg9 : Memref sig .tc .vmem S16x25x1024 .bf16) → arg9.IsWhole →
      DmaSems sig S16 → DmaSems sig S16 → β) : β :=
  k (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _) cc0_scratch2 cc0_scratch3

variable {c : Dev nD} {I : Ins F} {P R : sProp (MT nD τ sig Unit (Elt F) ℕ UU ℕ)}
variable {SB : Dev nD → Slabs F} {K : GSem nD τ sig → ℕ}

theorem part1 {Q} (h : iprop(sigSt SB K c 5 ∗ R) ⊢ Q ⟨c, mine c, SemArray.scalar (sig.barrier 0 rfl), Scalar.addi (mine c) 6#32, 16#32⟩) :
    iprop(sigSt SB K c 0 ∗ R) ⊢ runs c (onBufs (k0_part1 (F := F))) Q := by
  rw [onBufs, Gen.k0_part1_eq_skeleton]; unfold Gen.k0_part1_skel
  refine then_device ?_
  refine then_sig 0 1 rfl (by decide) (Fin.ext ((by decide : ∀ c, k0_dev1 c = (pr 1 c).val) c)) ?_
  refine then_sig 1 2 rfl (by decide) (Fin.ext ((by decide : ∀ c, k0_dev2 c = (pr 2 c).val) c)) ?_
  refine then_sig 2 3 rfl (by decide) (Fin.ext ((by decide : ∀ c, k0_dev3 c = (pr 3 c).val) c)) ?_
  refine then_sig 3 4 rfl (by decide) (Fin.ext ((by decide : ∀ c, k0_dev4 c = (pr 4 c).val) c)) ?_
  refine then_sig 4 5 rfl (by decide) (Fin.ext ((by decide : ∀ c, k0_dev5 c = (pr 5 c).val) c)) ?_
  exact then_ret h

theorem part2 {v2 v24 c16 : BitVec 32} {Q} (h : ∀ a b, iprop(sigSt SB K c 11 ∗ R) ⊢ Q ⟨a, b⟩) :
    iprop(sigSt SB K c 5 ∗ R) ⊢ runs c (onBufs (k0_part2 (F := F)) c v2 (SemArray.scalar (sig.barrier 0 rfl)) v24 c16) Q := by
  rw [onBufs, Gen.k0_part2_eq_skeleton]; unfold Gen.k0_part2_skel
  refine then_sig 5 6 rfl (by decide) (Fin.ext ((by decide : ∀ c, k0_dev6 c = (pr 6 c).val) c)) ?_
  refine then_sig 6 7 rfl (by decide) (Fin.ext ((by decide : ∀ c, k0_dev7 c = (pr 7 c).val) c)) ?_
  refine then_sig 7 8 rfl (by decide) (Fin.ext ((by decide : ∀ c, k0_dev8 c = (pr 8 c).val) c)) ?_
  refine then_sig 8 9 rfl (by decide) (Fin.ext ((by decide : ∀ c, k0_dev9 c = (pr 9 c).val) c)) ?_
  refine then_sig 9 10 rfl (by decide) (Fin.ext ((by decide : ∀ c, k0_dev10 c = (pr 10 c).val) c)) ?_
  refine then_sig 10 11 rfl (by decide) (Fin.ext ((by decide : ∀ c, k0_dev11 c = (pr 11 c).val) c)) ?_
  exact then_ret (h _ _)

theorem part3 {v2 v48 c16 : BitVec 32} {Q} (h : iprop(barDone SB K c ∗ wins c I ∗ R) ⊢ Q ⟨Gen.k0_pay1 I.lX, I.ex, I.sm⟩) :
    iprop(sigSt SB K c 11 ∗ barRes c ∗ wins c I ∗ R)
      ⊢ runs c (onBufs (k0_part3 (F := F)) c v2 (SemArray.scalar (sig.barrier 0 rfl)) v48 c16) Q := by
  rw [onBufs, Gen.k0_part3_eq_skeleton]; unfold Gen.k0_part3_skel
  refine then_sig 11 12 rfl (by decide) (Fin.ext ((by decide : ∀ c, k0_dev12 c = (pr 12 c).val) c)) ?_
  refine then_sig 12 13 rfl (by decide) (Fin.ext ((by decide : ∀ c, k0_dev13 c = (pr 13 c).val) c)) ?_
  refine then_sig 13 14 rfl (by decide) (Fin.ext ((by decide : ∀ c, k0_dev14 c = (pr 14 c).val) c)) ?_
  refine then_sig 14 15 rfl (by decide) (Fin.ext ((by decide : ∀ c, k0_dev15 c = (pr 15 c).val) c)) ?_
  refine then_bar ?_
  refine then_win wins_x ?_
  refine then_win wins_rw ?_
  exact then_ret h

theorem part4 {Q} (h : iprop(P ∗ wins c I ∗ R) ⊢ Q ⟨I.gate c, I.hit c⟩) :
    iprop(P ∗ wins c I ∗ R) ⊢ runs c (onBufs (k0_part4 (F := F)) (mine c) I.ex I.sm) Q := by
  rw [onBufs, Gen.k0_part4_eq_skeleton]; unfold Gen.k0_part4_skel
  refine then_win wins_ix ?_
  refine then_win wins_ix ?_
  exact then_ret h

theorem part5 {Q} (h : iprop(P ∗ wins c I ∗ R) ⊢ Q ⟨I.hitRow c, I.rank c, I.picked c, I.pickedGate c, I.firstTwo c, I.gate2 c⟩) :
    iprop(P ∗ wins c I ∗ R) ⊢ runs c (onBufs (k0_part5 (F := F)) (Gen.k0_pay1 I.lX) (I.gate c) (I.hit c)) Q := by
  rw [onBufs, Gen.k0_part5_eq_skeleton]; unfold Gen.k0_part5_skel
  refine then_win wins_tri ?_
  refine then_win wins_sr ?_
  refine then_win wins_tm ?_
  refine then_win wins_w ?_
  refine then_win wins_w ?_
  exact then_ret h

theorem part6 {Q} (h : iprop(stored c (I.slabs c) 1 ∗ wins c I ∗ R) ⊢ Q ⟨I.part c, Gen.k0_pay17 (I.rank c), Gen.k0_pay18 (I.hitRow c), Gen.k0_pay19⟩) :
    iprop(stored c (I.slabs c) 0 ∗ wins c I ∗ R)
      ⊢ runs c (onBufs (k0_part6 (F := F)) (I.hitRow c) (I.rank c) (I.picked c) (I.pickedGate c) (I.firstTwo c) (I.gate2 c)) Q := by
  rw [onBufs, Gen.k0_part6_eq_skeleton]; unfold Gen.k0_part6_skel
  refine then_win wins_w ?_
  refine then_win wins_w ?_
  refine then_peek fun _ => ?_
  refine then_rows 0 ?_
  refine then_peek fun _ => ?_
  refine then_slab 0 (fun a b => rfl) ?_
  refine then_peek fun _ => ?_
  refine then_rows 1 ?_
  exact then_ret h

end Cert.Moe
-- ==== Proof.Body2.lean ====
/-
  The middle of the body, part by part: the other slabs stored, the copies out, the device's own slab, the copies in.
-/
module

public import proofs.«01_k».proof.Proof.Body

@[expose] public section

noncomputable section

namespace Cert.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {I : Ins F} {P R : sProp (MT nD τ sig Unit (Elt F) ℕ UU ℕ)}
variable {SB : Dev nD → Slabs F} {K : GSem nD τ sig → ℕ}

theorem part7 {Q} (h : iprop(stored c (I.slabs c) 4 ∗ wins c I ∗ R) ⊢ Q (Gen.k0_pay25 (I.part c))) :
    iprop(stored c (I.slabs c) 1 ∗ wins c I ∗ R)
      ⊢ runs c (onBufs (k0_part7 (F := F)) (I.hitRow c) (I.rank c) (I.part c) (Gen.k0_pay17 (I.rank c)) (Gen.k0_pay18 (I.hitRow c)) Gen.k0_pay19) Q := by
  rw [onBufs, Gen.k0_part7_eq_skeleton]; unfold Gen.k0_part7_skel
  refine then_peek fun _ => ?_
  refine then_slab 1 (fun a b => rfl) ?_
  refine then_peek fun _ => ?_
  refine then_rows 2 ?_
  refine then_peek fun _ => ?_
  refine then_slab 2 (fun a b => rfl) ?_
  refine then_peek fun _ => ?_
  refine then_rows 3 ?_
  refine then_peek fun _ => ?_
  refine then_slab 3 (fun a b => rfl) ?_
  exact then_ret h

theorem part8 {Q} (h : iprop(stored c (I.slabs c) 6 ∗ wins c I ∗ R) ⊢ Q ⟨Gen.k0_pay31 (I.rank c), Gen.k0_pay32 (I.hitRow c), Gen.k0_pay33⟩) :
    iprop(stored c (I.slabs c) 4 ∗ wins c I ∗ R)
      ⊢ runs c (onBufs (k0_part8 (F := F)) (I.hitRow c) (I.rank c) (I.part c) (Gen.k0_pay25 (I.part c))) Q := by
  rw [onBufs, Gen.k0_part8_eq_skeleton]; unfold Gen.k0_part8_skel
  refine then_peek fun _ => ?_
  refine then_rows 4 ?_
  refine then_peek fun _ => ?_
  refine then_slab 4 (fun a b => rfl) ?_
  refine then_peek fun _ => ?_
  refine then_rows 5 ?_
  refine then_peek fun _ => ?_
  refine then_slab 5 (fun a b => rfl) ?_
  refine then_peek fun _ => ?_
  refine then_rows 6 ?_
  exact then_ret h

theorem part9 {Q} (h : iprop(stored c (I.slabs c) 9 ∗ wins c I ∗ R) ⊢ Q (Gen.k0_pay39 (I.part c))) :
    iprop(stored c (I.slabs c) 6 ∗ wins c I ∗ R)
      ⊢ runs c (onBufs (k0_part9 (F := F)) (I.hitRow c) (I.rank c) (I.part c) (Gen.k0_pay31 (I.rank c)) (Gen.k0_pay32 (I.hitRow c)) Gen.k0_pay33) Q := by
  rw [onBufs, Gen.k0_part9_eq_skeleton]; unfold Gen.k0_part9_skel
  refine then_peek fun _ => ?_
  refine then_slab 6 (fun a b => rfl) ?_
  refine then_peek fun _ => ?_
  refine then_rows 7 ?_
  refine then_peek fun _ => ?_
  refine then_slab 7 (fun a b => rfl) ?_
  refine then_peek fun _ => ?_
  refine then_rows 8 ?_
  refine then_peek fun _ => ?_
  refine then_slab 8 (fun a b => rfl) ?_
  exact then_ret h

theorem part10 {Q} (h : iprop(stored c (I.slabs c) 11 ∗ wins c I ∗ R) ⊢ Q ⟨Gen.k0_pay45 (I.rank c), Gen.k0_pay46 (I.hitRow c), Gen.k0_pay47⟩) :
    iprop(stored c (I.slabs c) 9 ∗ wins c I ∗ R)
      ⊢ runs c (onBufs (k0_part10 (F := F)) (I.hitRow c) (I.rank c) (I.part c) (Gen.k0_pay39 (I.part c))) Q := by
  rw [onBufs, Gen.k0_part10_eq_skeleton]; unfold Gen.k0_part10_skel
  refine then_peek fun _ => ?_
  refine then_rows 9 ?_
  refine then_peek fun _ => ?_
  refine then_slab 9 (fun a b => rfl) ?_
  refine then_peek fun _ => ?_
  refine then_rows 10 ?_
  refine then_peek fun _ => ?_
  refine then_slab 10 (fun a b => rfl) ?_
  refine then_peek fun _ => ?_
  refine then_rows 11 ?_
  exact then_ret h

theorem part11 {Q} (h : iprop(stored c (I.slabs c) 14 ∗ wins c I ∗ R) ⊢ Q (Gen.k0_pay53 (I.part c))) :
    iprop(stored c (I.slabs c) 11 ∗ wins c I ∗ R)
      ⊢ runs c (onBufs (k0_part11 (F := F)) (I.hitRow c) (I.rank c) (I.part c) (Gen.k0_pay45 (I.rank c)) (Gen.k0_pay46 (I.hitRow c)) Gen.k0_pay47) Q := by
  rw [onBufs, Gen.k0_part11_eq_skeleton]; unfold Gen.k0_part11_skel
  refine then_peek fun _ => ?_
  refine then_slab 11 (fun a b => rfl) ?_
  refine then_peek fun _ => ?_
  refine then_rows 12 ?_
  refine then_peek fun _ => ?_
  refine then_slab 12 (fun a b => rfl) ?_
  refine then_peek fun _ => ?_
  refine then_rows 13 ?_
  refine then_peek fun _ => ?_
  refine then_slab 13 (fun a b => rfl) ?_
  exact then_ret h

theorem part12 {v2 : BitVec 32} (hI : I.slabs c = SB c) {Q}
    (h : iprop(sendSt SB K c 0 ∗ outPts c c (I.slabs c) ∗ iprop(∃ f, inPts c c f) ∗ during c I) ⊢ Q ⟨⟩) :
    iprop(stored c (I.slabs c) 14 ∗ wins c I ∗ mid SB K c)
      ⊢ runs c (onBufs (k0_part12 (F := F)) c v2 (I.hitRow c) (I.rank c) (I.part c) (Gen.k0_pay53 (I.part c))) Q := by
  rw [onBufs, Gen.k0_part12_eq_skeleton]; unfold Gen.k0_part12_skel
  refine then_peek fun _ => ?_
  refine then_rows 14 ?_
  refine then_peek fun _ => ?_
  refine then_slab 14 (fun a b => rfl) ?_
  refine then_peek fun _ => ?_
  refine then_rows 15 ?_
  refine then_peek fun _ => ?_
  refine then_slab 15 (fun a b => rfl) ?_
  refine (pass_send (I.slabs c) hI).trans ?_
  exact then_ret h

theorem part13 {v2 : BitVec 32} {Q} (h : ∀ a, iprop(sendSt SB K c 3 ∗ R) ⊢ Q a) :
    iprop(sendSt SB K c 0 ∗ R) ⊢ runs c (onBufs (k0_part13 (F := F)) c v2) Q := by
  rw [onBufs, Gen.k0_part13_eq_skeleton]; unfold Gen.k0_part13_skel
  refine then_copy 0 1 rfl (by decide) ((by decide : ∀ c, k0_dev16 c = (pr 1 c).val) c) ?_
  refine then_copy 1 2 rfl (by decide) ((by decide : ∀ c, k0_dev17 c = (pr 2 c).val) c) ?_
  refine then_copy 2 3 rfl (by decide) ((by decide : ∀ c, k0_dev18 c = (pr 3 c).val) c) ?_
  exact then_ret (h _)

theorem part14 {v2 v456 : BitVec 32} {Q} (h : ∀ a, iprop(sendSt SB K c 6 ∗ R) ⊢ Q a) :
    iprop(sendSt SB K c 3 ∗ R) ⊢ runs c (onBufs (k0_part14 (F := F)) c v2 v456) Q := by
  rw [onBufs, Gen.k0_part14_eq_skeleton]; unfold Gen.k0_part14_skel
  refine then_copy 3 4 rfl (by decide) ((by decide : ∀ c, k0_dev19 c = (pr 4 c).val) c) ?_
  refine then_copy 4 5 rfl (by decide) ((by decide : ∀ c, k0_dev20 c = (pr 5 c).val) c) ?_
  refine then_copy 5 6 rfl (by decide) ((by decide : ∀ c, k0_dev21 c = (pr 6 c).val) c) ?_
  exact then_ret (h _)

theorem part15 {v2 c7 : BitVec 32} {Q} (h : iprop(sendSt SB K c 8 ∗ R) ⊢ Q ⟨⟩) :
    iprop(sendSt SB K c 6 ∗ R) ⊢ runs c (onBufs (k0_part15 (F := F)) c v2 c7) Q := by
  rw [onBufs, Gen.k0_part15_eq_skeleton]; unfold Gen.k0_part15_skel
  refine then_copy 6 7 rfl (by decide) ((by decide : ∀ c, k0_dev22 c = (pr 7 c).val) c) ?_
  refine then_copy 7 8 rfl (by decide) ((by decide : ∀ c, k0_dev23 c = (pr 8 c).val) c) ?_
  exact then_ret h

theorem part16 {v2 : BitVec 32} {Q} (h : iprop(sendSt SB K c 11 ∗ R) ⊢ Q ⟨⟩) :
    iprop(sendSt SB K c 8 ∗ R) ⊢ runs c (onBufs (k0_part16 (F := F)) c v2) Q := by
  rw [onBufs, Gen.k0_part16_eq_skeleton]; unfold Gen.k0_part16_skel
  refine then_copy 8 9 rfl (by decide) ((by decide : ∀ c, k0_dev24 c = (pr 9 c).val) c) ?_
  refine then_copy 9 10 rfl (by decide) ((by decide : ∀ c, k0_dev25 c = (pr 10 c).val) c) ?_
  refine then_copy 10 11 rfl (by decide) ((by decide : ∀ c, k0_dev26 c = (pr 11 c).val) c) ?_
  exact then_ret h

theorem part17 {v2 : BitVec 32} {Q} (h : ∀ a, iprop(sendSt SB K c 14 ∗ R) ⊢ Q a) :
    iprop(sendSt SB K c 11 ∗ R) ⊢ runs c (onBufs (k0_part17 (F := F)) c v2) Q := by
  rw [onBufs, Gen.k0_part17_eq_skeleton]; unfold Gen.k0_part17_skel
  refine then_copy 11 12 rfl (by decide) ((by decide : ∀ c, k0_dev27 c = (pr 12 c).val) c) ?_
  refine then_copy 12 13 rfl (by decide) ((by decide : ∀ c, k0_dev28 c = (pr 13 c).val) c) ?_
  refine then_copy 13 14 rfl (by decide) ((by decide : ∀ c, k0_dev29 c = (pr 14 c).val) c) ?_
  exact then_ret (h _)

/-- What the device reads of its own slab. -/
abbrev ownSlab (c : Dev nD) (f : Slabs F) : Vec F S1x25x1024 .bf16 :=
  outM.view.readAt (Elt F) (Rect.unit (s := S16x25x1024) (k0_off4 c) S1x25x1024.size (Facts₀.k0_off4_inb c)).toLoadRect f

theorem own_first (hI : I.slabs c = SB c) : iprop(outPts c c (I.slabs c) ∗ sendSt SB K c 15 ∗ iprop(∃ f, inPts c c f) ∗ during c I)
    ⊢ (iprop(iprop(∃ f, inPts c c f) ∗ outPts c c (SB c) ∗ sendSt SB K c 15 ∗ during c I) : sProp 𝕄) := by
  rw [hI]
  iintro ⟨Ho, Hs, Hi, Hd⟩
  isplitl [Hi]; · iexact Hi
  isplitl [Ho]; · iexact Ho
  isplitl [Hs]; · iexact Hs
  iexact Hd

theorem part18 {v2 v587 : BitVec 32} (hI : I.slabs c = SB c) {Q}
    (h : iprop(recvSt SB K c 1 ∗ inPts c c (got SB c) ∗ iprop(∃ o, winOut (F := F) c o) ∗ after SB K c I) ⊢ Q ⟨⟩) :
    iprop(sendSt SB K c 14 ∗ outPts c c (I.slabs c) ∗ iprop(∃ f, inPts c c f) ∗ during c I)
      ⊢ runs c (onBufs (k0_part18 (F := F)) c v2 v587) Q := by
  rw [onBufs, Gen.k0_part18_eq_skeleton]; unfold Gen.k0_part18_skel
  refine then_copy 14 15 rfl (by decide) ((by decide : ∀ c, k0_dev30 c = (pr 15 c).val) c) ?_
  refine swap ?_
  refine then_own ?_
  refine (own_first hI).trans ?_
  refine then_slot_peek (own_row (off4 c) _) fun _ => ?_
  refine then_own_store hI ?_
  refine pass_recv.trans ?_
  refine then_come 0 1 rfl (by decide) ?_
  exact then_ret h

theorem part19 {v2 : BitVec 32} {Q} (h : ∀ a, iprop(recvSt SB K c 4 ∗ R) ⊢ Q a) :
    iprop(recvSt SB K c 1 ∗ R) ⊢ runs c (onBufs (k0_part19 (F := F)) c v2) Q := by
  rw [onBufs, Gen.k0_part19_eq_skeleton]; unfold Gen.k0_part19_skel
  refine then_come 1 2 rfl (by decide) ?_
  refine then_come 2 3 rfl (by decide) ?_
  refine then_come 3 4 rfl (by decide) ?_
  exact then_ret (h _)

theorem part20 {v2 v646 : BitVec 32} {Q} (h : ∀ a, iprop(recvSt SB K c 7 ∗ R) ⊢ Q a) :
    iprop(recvSt SB K c 4 ∗ R) ⊢ runs c (onBufs (k0_part20 (F := F)) c v2 v646) Q := by
  rw [onBufs, Gen.k0_part20_eq_skeleton]; unfold Gen.k0_part20_skel
  refine then_come 4 5 rfl (by decide) ?_
  refine then_come 5 6 rfl (by decide) ?_
  refine then_come 6 7 rfl (by decide) ?_
  exact then_ret (h _)

theorem part21 {v2 v675 : BitVec 32} {Q} (h : ∀ a, iprop(recvSt SB K c 10 ∗ R) ⊢ Q a) :
    iprop(recvSt SB K c 7 ∗ R) ⊢ runs c (onBufs (k0_part21 (F := F)) c v2 v675) Q := by
  rw [onBufs, Gen.k0_part21_eq_skeleton]; unfold Gen.k0_part21_skel
  refine then_come 7 8 rfl (by decide) ?_
  refine then_come 8 9 rfl (by decide) ?_
  refine then_come 9 10 rfl (by decide) ?_
  exact then_ret (h _)

theorem part22 {v2 v704 : BitVec 32} {Q} (h : iprop(recvSt SB K c 12 ∗ R) ⊢ Q ⟨⟩) :
    iprop(recvSt SB K c 10 ∗ R) ⊢ runs c (onBufs (k0_part22 (F := F)) c v2 v704) Q := by
  rw [onBufs, Gen.k0_part22_eq_skeleton]; unfold Gen.k0_part22_skel
  refine then_come 10 11 rfl (by decide) ?_
  refine then_come 11 12 rfl (by decide) ?_
  exact then_ret h

end Cert.Moe
-- ==== Proof.Body3.lean ====
/-
  The last part of the body: what came in is read and combined, the result stored, the copies seen out. Then the whole body.
-/
module

public import proofs.«01_k».proof.Proof.Body2

@[expose] public section

noncomputable section

namespace Cert.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {I : Ins F} {P R : sProp (MT nD τ sig Unit (Elt F) ℕ UU ℕ)}
variable {SB : Dev nD → Slabs F} {K : GSem nD τ sig → ℕ}

theorem part23 {v2 : BitVec 32} {Q}
    (h : iprop(inWhole c (got SB c) ∗ iprop(∃ o, winOut (F := F) c o) ∗ came SB K c ∗ after SB K c I)
      ⊢ Q ⟨Gen.k0_pay59, Gen.k0_pay60 (rdRank (got SB c) 0), Gen.k0_pay61 (rdHit (got SB c) 0), Scalar.ofBits .f32 0x3F800000#32⟩) :
    iprop(recvSt SB K c 12 ∗ inPts c c (got SB c) ∗ iprop(∃ o, winOut (F := F) c o) ∗ after SB K c I)
      ⊢ runs c (onBufs (k0_part23 (F := F)) c v2) Q := by
  rw [onBufs, Gen.k0_part23_eq_skeleton]; unfold Gen.k0_part23_skel
  refine then_come 12 13 rfl (by decide) ?_
  refine then_come 13 14 rfl (by decide) ?_
  refine then_come 14 15 rfl (by decide) ?_
  refine pass_read.trans ?_
  refine then_in ?_
  refine then_in ?_
  exact then_ret h

theorem part24 {g : Slabs F} {Q}
    (h : iprop(inWhole c g ∗ R) ⊢ Q ⟨sel g 0, sel g 1, Gen.k0_pay64 (rdHit g 2), Gen.k0_pay65 Gen.k0_pay59 (rdRank g 2), Gen.k0_pay66⟩) :
    iprop(inWhole c g ∗ R) ⊢ runs c (onBufs (k0_part24 (F := F)) Gen.k0_pay59 (Gen.k0_pay60 (rdRank g 0)) (Gen.k0_pay61 (rdHit g 0)) (Scalar.ofBits .f32 0x3F800000#32)) Q := by
  rw [onBufs, Gen.k0_part24_eq_skeleton]; unfold Gen.k0_part24_skel
  refine then_in ?_
  refine then_in ?_
  refine then_in ?_
  refine then_in ?_
  exact then_ret h

theorem part25 {g : Slabs F} {Q}
    (h : iprop(inWhole c g ∗ R) ⊢ Q ⟨sel g 2, sel g 3, sel g 4⟩) :
    iprop(inWhole c g ∗ R) ⊢ runs c (onBufs (k0_part25 (F := F)) Gen.k0_pay59 (Gen.k0_pay64 (rdHit g 2)) (Gen.k0_pay65 Gen.k0_pay59 (rdRank g 2)) Gen.k0_pay66) Q := by
  rw [onBufs, Gen.k0_part25_eq_skeleton]; unfold Gen.k0_part25_skel
  refine then_in ?_
  refine then_in ?_
  refine then_in ?_
  refine then_in ?_
  exact then_ret h

theorem part26 {g : Slabs F} {Q}
    (h : iprop(inWhole c g ∗ R) ⊢ Q ⟨sel g 5, sel g 6, Gen.k0_pay72 (rdRank g 7)⟩) :
    iprop(inWhole c g ∗ R) ⊢ runs c (onBufs (k0_part26 (F := F)) Gen.k0_pay59) Q := by
  rw [onBufs, Gen.k0_part26_eq_skeleton]; unfold Gen.k0_part26_skel
  refine then_in ?_
  refine then_in ?_
  refine then_in ?_
  refine then_in ?_
  refine then_in ?_
  exact then_ret h

theorem part27 {g : Slabs F} {Q}
    (h : iprop(inWhole c g ∗ R) ⊢ Q ⟨sel g 7, sel g 8, Gen.k0_pay75 (rdRank g 9), Gen.k0_pay76 (rdHit g 9)⟩) :
    iprop(inWhole c g ∗ R) ⊢ runs c (onBufs (k0_part27 (F := F)) Gen.k0_pay59 (Gen.k0_pay72 (rdRank g 7))) Q := by
  rw [onBufs, Gen.k0_part27_eq_skeleton]; unfold Gen.k0_part27_skel
  refine then_in ?_
  refine then_in ?_
  refine then_in ?_
  refine then_in ?_
  refine then_in ?_
  exact then_ret h

theorem part28 {g : Slabs F} {Q}
    (h : iprop(inWhole c g ∗ R) ⊢ Q ⟨sel g 9, sel g 10, Gen.k0_pay79 (rdHit g 11), Gen.k0_pay80 (rdRank g 11)⟩) :
    iprop(inWhole c g ∗ R) ⊢ runs c (onBufs (k0_part28 (F := F)) Gen.k0_pay59 (Gen.k0_pay75 (rdRank g 9)) (Gen.k0_pay76 (rdHit g 9))) Q := by
  rw [onBufs, Gen.k0_part28_eq_skeleton]; unfold Gen.k0_part28_skel
  refine then_in ?_
  refine then_in ?_
  refine then_in ?_
  refine then_in ?_
  exact then_ret h

theorem part29 {g : Slabs F} {Q}
    (h : iprop(inWhole c g ∗ R) ⊢ Q ⟨sel g 11, sel g 12, Gen.k0_pay83 Gen.k0_pay59 (rdRank g 13) (rdHit g 13)⟩) :
    iprop(inWhole c g ∗ R) ⊢ runs c (onBufs (k0_part29 (F := F)) Gen.k0_pay59 (Gen.k0_pay79 (rdHit g 11)) (Gen.k0_pay80 (rdRank g 11))) Q := by
  rw [onBufs, Gen.k0_part29_eq_skeleton]; unfold Gen.k0_part29_skel
  refine then_in ?_
  refine then_in ?_
  refine then_in ?_
  refine then_in ?_
  exact then_ret h

theorem part30 {g : Slabs F} {Q}
    (h : iprop(inWhole c g ∗ R) ⊢ Q (sels g)) :
    iprop(inWhole c g ∗ R) ⊢ runs c (onBufs (k0_part30 (F := F)) Gen.k0_pay59 (sel g 0) (sel g 1) (sel g 2) (sel g 3) (sel g 4) (sel g 5) (sel g 6) (sel g 7)
        (sel g 8) (sel g 9) (sel g 10) (sel g 11) (sel g 12) (Gen.k0_pay83 Gen.k0_pay59 (rdRank g 13) (rdHit g 13))) Q := by
  rw [onBufs, Gen.k0_part30_eq_skeleton]; unfold Gen.k0_part30_skel
  refine then_in ?_
  refine then_in ?_
  refine then_in ?_
  refine then_in ?_
  exact then_ret h

theorem part31 {g : Slabs F} {Q}
    (h : iprop(inWhole c g ∗ R) ⊢ Q ⟨blk g 0, blk g 1, blk g 2, blk g 3, blk g 4, blk g 5, blk g 6, blk g 7, blk g 8, blk g 9, blk g 10, blk g 11⟩) :
    iprop(inWhole c g ∗ R) ⊢ runs c (onBufs (k0_part31 (F := F))) Q := by
  rw [onBufs, Gen.k0_part31_eq_skeleton]; unfold Gen.k0_part31_skel
  refine then_in ?_
  refine then_in ?_
  refine then_in ?_
  refine then_in ?_
  refine then_in ?_
  refine then_in ?_
  refine then_in ?_
  refine then_in ?_
  refine then_in ?_
  refine then_in ?_
  refine then_in ?_
  refine then_in ?_
  exact then_ret h

/-- A load of the staged result that nothing reads. -/
theorem then_out_peek {α : Type} {Q : α → sProp 𝕄} {r : LoadRect S64x1024} {w : (Memref.whole cc0_stg7_0).view.LoadsAt r} {k : Vec F r.shape .f32 → Pr F α}
    (h : ∀ v, iprop(iprop(∃ o, winOut (F := F) c o) ∗ R) ⊢ runs c (k v) Q) :
    iprop(iprop(∃ o, winOut (F := F) c o) ∗ R) ⊢ runs c (Prog.lift (.load (Memref.whole cc0_stg7_0) r w) >>= k) Q := by
  refine then_load_any (S := Finset.univ) (Finset.subset_univ _) ?_ h
  iintro ⟨⟨%o, H⟩, HR⟩
  iexists o
  isplitl [H]; · iexact H
  iintro H
  isplitl [H]; · iexists o; iexact H
  iexact HR

/-- The store of the result. -/
theorem then_out_store {α : Type} {Q : α → sProp 𝕄} {v : Vec F S64x1024 .f32}
    {w₁ : ((Memref.whole cc0_stg7_0).access (Rect.unit (s := S64x1024) ![0, 0] S64x1024.size Facts₀.inb_S64x1024_S64x1024_0_0)).Stores Finset.univ}
    {w₂ : Finset.univ = Finset.univ ∨ ∀ a, (Rect.unit (s := S64x1024) ![0, 0] S64x1024.size Facts₀.inb_S64x1024_S64x1024_0_0).stride a = 1}
    {k : PUnit → Pr F α} (h : iprop(winOut c v ∗ R) ⊢ runs c (k ⟨⟩) Q) :
    iprop(iprop(∃ o, winOut (F := F) c o) ∗ R) ⊢ runs c (Prog.lift (.store (Memref.whole cc0_stg7_0)
      (Rect.unit (s := S64x1024) ![0, 0] S64x1024.size Facts₀.inb_S64x1024_S64x1024_0_0) v Finset.univ w₁ w₂) >>= k) Q := by
  refine then_store (S := Finset.univ) (Finset.subset_univ _) (P' := iprop(winOut c v ∗ R)) ?_ h
  have e : ∀ o, ((Memref.whole cc0_stg7_0).access (Rect.unit (s := S64x1024) ![0, 0] S64x1024.size Facts₀.inb_S64x1024_S64x1024_0_0)).write (Elt F) o v Finset.univ = v :=
    fun o => Memref.write_access_unit_zero_univ (Elt F) cc0_stg7_0 (by funext a; fin_cases a <;> rfl) _ o v
  iintro ⟨⟨%o, H⟩, HR⟩
  iexists o
  isplitl [H]; · iexact H
  rw [e o]
  iintro H
  isplitl [H]; · iexact H
  iexact HR

theorem part32 {Q} (h : iprop(sentSt SB K c 2 ∗ rest SB c I) ⊢ Q ⟨⟩) :
    iprop(inWhole c (got SB c) ∗ iprop(∃ o, winOut (F := F) c o) ∗ came SB K c ∗ after SB K c I)
      ⊢ runs c (onBufs (k0_part32 (F := F)) c (sels (got SB c)) (blk (got SB c) 0) (blk (got SB c) 1) (blk (got SB c) 2) (blk (got SB c) 3) (blk (got SB c) 4) (blk (got SB c) 5)
        (blk (got SB c) 6) (blk (got SB c) 7) (blk (got SB c) 8) (blk (got SB c) 9) (blk (got SB c) 10) (blk (got SB c) 11)) Q := by
  rw [onBufs, Gen.k0_part32_eq_skeleton]; unfold Gen.k0_part32_skel
  refine then_in ?_
  refine then_in ?_
  refine then_in ?_
  refine then_in ?_
  refine swap ?_
  refine then_out_peek fun _ => ?_
  refine then_out_store ?_
  refine pass_sent.trans ?_
  refine then_gone 0 1 rfl (by decide) ?_
  refine then_gone 1 2 rfl (by decide) ?_
  exact then_ret h

theorem part33 {Q} (h : iprop(sentSt SB K c 7 ∗ R) ⊢ Q ⟨⟩) :
    iprop(sentSt SB K c 2 ∗ R) ⊢ runs c (onBufs (k0_part33 (F := F)) c) Q := by
  rw [onBufs, Gen.k0_part33_eq_skeleton]; unfold Gen.k0_part33_skel
  refine then_gone 2 3 rfl (by decide) ?_
  refine then_gone 3 4 rfl (by decide) ?_
  refine then_gone 4 5 rfl (by decide) ?_
  refine then_gone 5 6 rfl (by decide) ?_
  refine then_gone 6 7 rfl (by decide) ?_
  exact then_ret h

theorem part34 {Q} (h : iprop(sentSt SB K c 11 ∗ R) ⊢ Q ⟨⟩) :
    iprop(sentSt SB K c 7 ∗ R) ⊢ runs c (onBufs (k0_part34 (F := F)) c) Q := by
  rw [onBufs, Gen.k0_part34_eq_skeleton]; unfold Gen.k0_part34_skel
  refine then_gone 7 8 rfl (by decide) ?_
  refine then_gone 8 9 rfl (by decide) ?_
  refine then_gone 9 10 rfl (by decide) ?_
  refine then_gone 10 11 rfl (by decide) ?_
  exact then_ret h

/-- What the body starts from. -/
def start (SB : Dev nD → Slabs F) (K : GSem nD τ sig → ℕ) (c : Dev nD) (I : Ins F) : sProp 𝕄 :=
  iprop(sigSt SB K c 0 ∗ barRes c ∗ wins c I ∗ work c)

/-- Almost all of the body: what is left to see out are two copies. -/
theorem part35 (hI : I.slabs c = SB c) {Q : Dev nD → sProp 𝕄} (h : iprop(sentSt SB K c 13 ∗ rest SB c I) ⊢ Q c) :
    start SB K c I ⊢ runs c (onBufs (k0_part35 (F := F))) Q := by
  rw [onBufs, Gen.k0_part35_eq_skeleton]; unfold Gen.k0_part35_skel start
  rw [runs, wp_bind]; refine part1 ?_
  rw [wp_bind]; refine part2 fun _ _ => ?_
  rw [wp_bind]; refine part3 ?_
  rw [wp_bind]; refine part4 ?_
  rw [wp_bind]; refine part5 ?_
  refine (pass_store (I.slabs c)).trans ?_
  rw [wp_bind]; refine part6 ?_
  rw [wp_bind]; refine part7 ?_
  rw [wp_bind]; refine part8 ?_
  rw [wp_bind]; refine part9 ?_
  rw [wp_bind]; refine part10 ?_
  rw [wp_bind]; refine part11 ?_
  rw [wp_bind]; refine part12 hI ?_
  rw [wp_bind]; refine part13 fun _ => ?_
  rw [wp_bind]; refine part14 fun _ => ?_
  rw [wp_bind]; refine part15 ?_
  rw [wp_bind]; refine part16 ?_
  rw [wp_bind]; refine part17 fun _ => ?_
  rw [wp_bind]; refine part18 hI ?_
  rw [wp_bind]; refine part19 fun _ => ?_
  rw [wp_bind]; refine part20 fun _ => ?_
  rw [wp_bind]; refine part21 fun _ => ?_
  rw [wp_bind]; refine part22 ?_
  rw [wp_bind]; refine part23 ?_
  rw [wp_bind]; refine part24 ?_
  rw [wp_bind]; refine part25 ?_
  rw [wp_bind]; refine part26 ?_
  rw [wp_bind]; refine part27 ?_
  rw [wp_bind]; refine part28 ?_
  rw [wp_bind]; refine part29 ?_
  rw [wp_bind]; refine part30 ?_
  rw [wp_bind]; refine part31 ?_
  rw [wp_bind]; refine part32 ?_
  rw [wp_bind]; refine part33 ?_
  rw [wp_bind]; refine part34 ?_
  refine then_gone 11 12 rfl (by decide) ?_
  refine then_gone 12 13 rfl (by decide) ?_
  exact then_ret h

/-- The whole body, from what it starts from to what it leaves. -/
theorem whole_body (hI : I.slabs c = SB c) {Q : PUnit → sProp 𝕄} (h : fin SB K c I ⊢ Q ⟨⟩) :
    start SB K c I ⊢ runs c (onBufs (cc0_body (F := F))) Q := by
  rw [onBufs, Gen.cc0_body_eq_skeleton]; unfold Gen.cc0_body_skel
  rw [runs, wp_bind]; refine part35 hI ?_
  refine then_gone 13 14 rfl (by decide) ?_
  refine then_gone 14 15 rfl (by decide) ?_
  exact then_ret (pass_end.trans h)

end Cert.Moe
-- ==== Proof.Region.lean ====
/-
  The kernel's region: what the staged windows hold before and after the body, and that the body, from what the launch deals a device,
  leaves the staged result and closes the device's cells.
-/
module

public import proofs.«01_k».proof.Proof.Launch
public import proofs.«01_k».proof.Proof.Body3
public import proofs.«01_k».proof.Proof.Gen.KernelIdeal.Frame
public import Idealize.ShloMosaic.Lib.Pipeline.RegionTalk
public import Idealize.ShloMosaic.Lib.Pipeline.ValueKit

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Contents -/

/-- What device `c`'s windows hold. -/
def ins (c : Dev nD) : Ins F where
  x := Gen.V m c main_arg0
  rw := Gen.V m c main_arg1
  ix := Gen.V m c main_arg2
  w := Gen.V m c main_v31
  tri := Gen.V m c main_v15
  tm := Gen.V m c main_v24
  sr := Gen.V m c main_v30

/-- The slabs device `d` sends. -/
def sb (d : Dev nD) : Slabs F := (ins m d).slabs d

/-- The result of device `c`. -/
def result (c : Dev nD) : Vec F S64x1024 .f32 := outOf (got (sb m) c)

/-! ## What enters the body, what leaves it -/

/-- What the launch leaves a device for the exchange. -/
def kept (c : Dev nD) : sProp 𝕄 :=
  iprop((∃ K, records (sb m) K ∗ dealt (F := F) c) ∗ cred (tallyAt (barCell c) () 15) ∗ bigSep (ahead 0) fun o => cred (tallyAt (recvCell c (pr o c)) () N))

/-- The same once the device's own cells are open. -/
def ready (c : Dev nD) : sProp 𝕄 :=
  iprop(∃ K, invs (sb m) K ∗ (bigSep (ahead 0) fun o => iprop(dutyTok ER (barCell (pr o c)) 0 c ∗ reached ER (recvCell c (pr o c)) 0))
    ∗ barRes (F := F) c ∗ idle (F := F) c ∗ bigSep (ahead 0) (sendTok (F := F) c) ∗ bigSep (ahead 0) (recvRes (F := F) c)
    ∗ bigSep (ahead 0) (sentPos (F := F) c))

/-- The two buffers of slabs, at whatever contents, and the generator. -/
def scratch (c : Dev nD) : sProp 𝕄 := iprop((∃ f, outWhole (F := F) c f) ∗ (∃ f, inWhole (F := F) c f) ∗ ∃ r, prngReg c r)

/-- What the body leaves of the exchange: the barrier's counter and the device's own at zero. -/
def done (c : Dev nD) : sProp 𝕄 := iprop(semVal (barCell c) 0 ∗ Pipeline.ownSems0 osem c)

theorem open_ready (c : Dev nD) : iprop(kept m c ∗ Pipeline.ownSems0 osem c ∗ levAts L lv) ⊢ (|={Set.univ}=> ready m c : sProp 𝕄) := by
  unfold kept ready dealt
  iintro ⟨⟨⟨%K, #HR, Hb, Ho, Ht, Hs, Hr⟩, Hc, Hcr⟩, Hv, #Hl⟩
  imod (open_own (SB := sb m) (K := K) c) $$ [Ho Hv] with H
  · isplitr; · iexact HR
    isplitl [Ho] <;> iassumption
  imodintro
  unfold opened
  icases H with ⟨Hi, HS, HV⟩
  ihave HS' := part $$ HS
  icases HS' with ⟨HSa, HSr⟩
  ihave HV' := part $$ HV
  icases HV' with ⟨HVa, HVr⟩
  iexists K
  isplitr; · iapply records_invs; iexact HR
  isplitl [Ht HVr]; · iapply join; isplitl [Ht] <;> iassumption
  isplitl [Hc Hb]
  · unfold barRes
    isplitr; · iexact Hl
    isplitl [Hc] <;> iassumption
  isplitl [Hi]; · iexact Hi
  isplitl [Hs HSr Hr]
  · iapply (Entails.of_eq (show (bigSep (ahead 0) fun o => (iprop(dutyTok ER (sendCell c o) 0 0 ∗ reached ER (sendCell c o) 0
        ∗ dutyTok ER (recvCell (pr o c) c) 0 0) : sProp 𝕄)) = bigSep (ahead 0) (sendTok c) from bigSep_congr fun o _ => by unfold sendTok; rfl))
    iapply join; isplitl [Hs]; · iexact Hs
    iapply join; isplitl [HSr] <;> iassumption
  isplitl [Hcr HVa]
  · iapply (Entails.of_eq (show (bigSep (ahead 0) fun o => (iprop(cred (tallyAt (recvCell c (pr o c)) () N) ∗ atPos ER (recvCell c (pr o c)) 0 ∅ 0) : sProp 𝕄))
        = bigSep (ahead 0) (recvRes c) from bigSep_congr fun o _ => by unfold recvRes; rfl))
    iapply join; isplitl [Hcr] <;> iassumption
  · iapply (Entails.of_eq (show (bigSep (ahead 0) fun o => (atPos ER (sendCell c o) 0 ∅ 0 : sProp 𝕄)) = bigSep (ahead 0) (sentPos c) from
      bigSep_congr fun o _ => by unfold sentPos; rfl))
    iexact HSa

/-- A device's slots, at whatever contents: its own and those it opens to the others. -/
theorem slots (c : Dev nD) : iprop(∃ f, inWhole (F := F) c f) ⊢ (iprop((∃ f, inPts c c f) ∗ bigSep (ahead 0) fun o => iprop(∃ f, inPts c (pr o c) f)) : sProp 𝕄) := by
  iintro ⟨%f, H⟩
  ihave H' := (Entails.of_eq ((inWhole_eq c f).trans (round c fun j => inPts c j f))) $$ H
  icases H' with ⟨H0, H⟩
  isplitl [H0]; · iexists f; iexact H0
  iapply (show (bigSep (ahead 0) fun o => (inPts c (pr o c) f : sProp 𝕄)) ⊢ bigSep (ahead 0) fun o => iprop(∃ f, inPts c (pr o c) f) from
    bigSep_mono fun o _ => by
      show (_ : sProp 𝕄) ⊢ _
      iintro H; iexists f; iexact H) $$ H

/-- Everything the body starts from. -/
theorem start_intro (c : Dev nD) :
    iprop(ready m c ∗ scratch c ∗ ow c (O₀ c) ∗ wins c (ins m c) ∗ ∃ o, winOut c o)
      ⊢ (iprop(∃ K, start (sb m) K c (ins m c) ∗ (invs (sb m) K ∗ idle c ∗ ∃ r, prngReg c r)) : sProp 𝕄) := by
  unfold ready scratch start
  iintro ⟨⟨%K, #HI, Ht, Hb, Hi, Hs, Hr, Hp⟩, ⟨Hout, Hin, Hg⟩, HO, Hw, Ho⟩
  ihave Hin' := (slots c) $$ Hin
  icases Hin' with ⟨H0, Hin⟩
  ihave Ht' := part $$ Ht
  icases Ht' with ⟨Ht, Hre⟩
  iexists K
  isplitr [Hi Hg]
  · isplitl [Ht Hre Hin HO]
    · unfold sigSt
      isplitr; · iexact HI
      isplitr [HO]
      · iapply (Entails.of_eq (show (bigSep (ahead 0) fun o => (iprop(dutyTok ER (barCell (pr o c)) 0 c ∗ (∃ f, inPts c (pr o c) f)
          ∗ reached ER (recvCell c (pr o c)) 0) : sProp 𝕄)) = bigSep (ahead 0) (sigRes c) from bigSep_congr fun o _ => by unfold sigRes; rfl))
        iapply join; isplitl [Ht]; · iexact Ht
        iapply join; isplitl [Hin] <;> iassumption
      · iexact HO
    isplitl [Hb]; · iexact Hb
    isplitl [Hw]; · iexact Hw
    unfold work later
    isplitl [Hout]; · iexact Hout
    isplitl [H0]; · iexact H0
    isplitl [Ho]; · iexact Ho
    isplitl [Hs]; · iexact Hs
    isplitl [Hr] <;> iassumption
  · isplitr; · iexact HI
    isplitl [Hi] <;> iassumption

/-- Everything the body leaves, its cells closed. -/
theorem fin_elim (K : GSem nD τ sig → ℕ) (c : Dev nD) :
    iprop(fin (sb m) K c (ins m c) ∗ (invs (sb m) K ∗ idle c ∗ ∃ r, prngReg c r))
      ⊢ (|={Set.univ}=> (done c ∗ scratch c ∗ ow c 0 ∗ wins c (ins m c) ∗ winOut c (result m c)) : sProp 𝕄) := by
  unfold fin
  iintro ⟨⟨#HI, Hw, Ho, Hout, Hin, HO, Hb, Hr, Hs⟩, -, Hi, Hg⟩
  ihave Hib := (inv_bar (sb m) K c) $$ HI
  icases Hib with ⟨#Hib, -⟩
  imod (Rounds.cell_close ER (talkRd (sb m)) (g := barCell c) (Set.mem_univ (K (barCell c))) (fun h => h) (duties_later (sb m) (barCell c))) $$ [Hb] with Hbv
  · isplitr; · iexact Hib
    iexact Hb
  imod (close_own (SB := sb m) (K := K) c) $$ [Hi Hr Hs] with Hv
  · isplitr; · iexact HI
    isplitl [Hi]; · iexact Hi
    isplitl [Hs] <;> iassumption
  imodintro
  unfold done scratch result
  isplitl [Hbv Hv]; · isplitl [Hbv] <;> iassumption
  isplitl [Hout Hin Hg]
  · isplitl [Hout]; · iexists _; iexact Hout
    isplitl [Hin]; · iexists _; iexact Hin
    iexact Hg
  isplitl [HO]; · iexact HO
  isplitl [Hw] <;> iassumption

/-- The body, between the two. -/
theorem body_run (c : Dev nD) (Q : PUnit → sProp 𝕄)
    (h : (iprop(done c ∗ scratch c ∗ ow c 0 ∗ wins c (ins m c) ∗ winOut c (result m c)) : sProp 𝕄) ⊢ Q ⟨⟩) :
    iprop(ready m c ∗ scratch c ∗ ow c (O₀ c) ∗ wins c (ins m c) ∗ ∃ o, winOut c o) ⊢ runs c (onBufs (cc0_body (F := F))) Q := by
  refine (start_intro m c).trans ?_
  iintro ⟨%K, H⟩
  iapply (wp_fupd _ _ _ _ Q)
  iapply (wp_mono _ _ _ (Q := fun _ => iprop(fin (sb m) K c (ins m c) ∗ (invs (sb m) K ∗ idle c ∗ ∃ r, prngReg c r)))
    fun _ => (fin_elim m K c).trans (fupd_mono h))
  iapply wp_frame_r
  icases H with ⟨H, HR⟩
  isplitl [H]
  · iapply (whole_body (I := ins m c) (SB := sb m) (K := K) rfl (Q := fun _ => fin (sb m) K c (ins m c)) .rfl)
    iexact H
  · iexact HR

end Cert.Moe
-- ==== Proof.Region2.lean ====
/-
  The kernel's region as the launch takes it: the windows' contents at its one point, the body's obligation, and the region between what
  the launch deals a device and what the device holds at the end.
-/
module

public import proofs.«01_k».proof.Proof.Region

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The windows' contents -/

/-- Each input window's one block is its whole array. -/
theorem blk_x (c : Dev nD) (t : Fin cfg0.N) : Gen.iblk m c 0 t = (ins m c).x :=
  funext fun j => congrArg (Gen.V m c main_arg0) (funext fun k => Fin.ext (win0_0.rect_emb_val_of_index_zero t k rfl j))
theorem blk_rw (c : Dev nD) (t : Fin cfg0.N) : Gen.iblk m c 1 t = (ins m c).rw :=
  funext fun j => congrArg (Gen.V m c main_arg1) (funext fun k => Fin.ext (win0_1.rect_emb_val_of_index_zero t k rfl j))
theorem blk_ix (c : Dev nD) (t : Fin cfg0.N) : Gen.iblk m c 2 t = (ins m c).ix :=
  funext fun j => congrArg (Gen.V m c main_arg2) (funext fun k => Fin.ext (win0_2.rect_emb_val_of_index_zero t k rfl j))
theorem blk_w (c : Dev nD) (t : Fin cfg0.N) : Gen.iblk m c 3 t = (ins m c).w :=
  funext fun j => congrArg (Gen.V m c main_v31) (funext fun k => Fin.ext (win0_3.rect_emb_val_of_index_zero t k rfl j))
theorem blk_tri (c : Dev nD) (t : Fin cfg0.N) : Gen.iblk m c 4 t = (ins m c).tri :=
  funext fun j => congrArg (Gen.V m c main_v15) (funext fun k => Fin.ext (win0_4.rect_emb_val_of_index_zero t k rfl j))
theorem blk_tm (c : Dev nD) (t : Fin cfg0.N) : Gen.iblk m c 5 t = (ins m c).tm :=
  funext fun j => congrArg (Gen.V m c main_v24) (funext fun k => Fin.ext (win0_5.rect_emb_val_of_index_zero t k rfl j))
theorem blk_sr (c : Dev nD) (t : Fin cfg0.N) : Gen.iblk m c 6 t = (ins m c).sr :=
  funext fun j => congrArg (Gen.V m c main_v30) (funext fun k => Fin.ext (win0_6.rect_emb_val_of_index_zero t k rfl j))

/-- What the exchange holds when the body is entered, and when it is left. -/
def entering (c : Dev nD) : sProp 𝕄 := iprop(ready m c ∗ scratch (F := F) c)
def leaving (c : Dev nD) : sProp 𝕄 := iprop(done (F := F) c ∗ scratch (F := F) c)

/-- The region's data: the inputs stay, the result window ends at the device's result; the device owes its signals and its slabs until the
    body has paid them. -/
def dat (c : Dev nD) : Dat τ (Elt F) Unit ℕ UU ℕ cfg0 c where
  A w := Gen.V m c (Pipeline.arrRef spec0 w)
  after w t := match w with
    | 0 => Gen.iblk m c 0 t
    | 1 => Gen.iblk m c 1 t
    | 2 => Gen.iblk m c 2 t
    | 3 => Gen.iblk m c 3 t
    | 4 => Gen.iblk m c 4 t
    | 5 => Gen.iblk m c 5 t
    | 6 => Gen.iblk m c 6 t
    | 7 => result m c
  Φ t := if t.val = 0 then entering m c else leaving c
  q _ := fullShare
  owed t := if t.val = 0 then O₀ c else 0

theorem owed_zero (c : Dev nD) : (dat m c).owed 0 = O₀ c := by
  show (if ((0 : Fin (cfg0.N + 1)).val = 0) then O₀ c else 0) = O₀ c; exact if_pos rfl
theorem owed_first (c : Dev nD) : (dat m c).owed Gen.t0_0.castSucc = O₀ c := by
  show (if (Gen.t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from Gen.N_0]; decide)]
theorem phi_zero (c : Dev nD) : (dat m c).Φ 0 = entering m c := by
  show (if ((0 : Fin (cfg0.N + 1)).val = 0) then entering m c else leaving c) = _; exact if_pos rfl
theorem phi_first (c : Dev nD) : (dat m c).Φ Gen.t0_0.castSucc = entering m c := by
  show (if (Gen.t0_0.castSucc : Fin (cfg0.N + 1)).val = 0 then entering m c else leaving c) = _; exact if_pos rfl
theorem phi_last (c : Dev nD) : (dat m c).Φ (Fin.last _) = leaving c := by
  show (if (Fin.last cfg0.N).val = 0 then entering m c else leaving c) = _
  rw [Fin.val_last, if_neg (by rw [show cfg0.N = 1 from Gen.N_0]; decide)]

theorem owesAt_intro {cfg : Pipeline.Cfg sig Λ₀} {c : Dev nD} (d : Dat τ (Elt F) Unit ℕ UU ℕ cfg c) (t : Fin (cfg.N + 1))
    (O : CellTallies nD τ sig Unit) (h0 : d.owed t = O) (hr : d.recorded t = Set.univ) : (ow c O : sProp 𝕄) ⊢ d.owesAt () t := by
  unfold ow Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (d : Dat τ (Elt F) Unit ℕ UU ℕ cfg c) (t : Fin (cfg.N + 1))
    (O : CellTallies nD τ sig Unit) (h0 : d.owed t = O) : (d.owesAt () t : sProp 𝕄) ⊢ ow c O := by
  unfold ow Dat.owesAt Pipeline.owesWithin; rw [h0]
  iintro ⟨%W, -, HO⟩; iexists W; iexact HO

section Before
variable (c : Dev nD) (t : Fin cfg0.N)
/-- Before the body each input window holds its block. -/
theorem before_x (d) : (dat m c).before 0 t d = Gen.iblk m c 0 t :=
  (dat m c).before_in_eq_fetched 0 rfl (fun _ => rfl) (fun _ _ _ => rfl) (fun _ => rfl) t d
theorem before_rw (d) : (dat m c).before 1 t d = Gen.iblk m c 1 t :=
  (dat m c).before_in_eq_fetched 1 rfl (fun _ => rfl) (fun _ _ _ => rfl) (fun _ => rfl) t d
theorem before_ix (d) : (dat m c).before 2 t d = Gen.iblk m c 2 t :=
  (dat m c).before_in_eq_fetched 2 rfl (fun _ => rfl) (fun _ _ _ => rfl) (fun _ => rfl) t d
theorem before_w (d) : (dat m c).before 3 t d = Gen.iblk m c 3 t :=
  (dat m c).before_in_eq_fetched 3 rfl (fun _ => rfl) (fun _ _ _ => rfl) (fun _ => rfl) t d
theorem before_tri (d) : (dat m c).before 4 t d = Gen.iblk m c 4 t :=
  (dat m c).before_in_eq_fetched 4 rfl (fun _ => rfl) (fun _ _ _ => rfl) (fun _ => rfl) t d
theorem before_tm (d) : (dat m c).before 5 t d = Gen.iblk m c 5 t :=
  (dat m c).before_in_eq_fetched 5 rfl (fun _ => rfl) (fun _ _ _ => rfl) (fun _ => rfl) t d
theorem before_sr (d) : (dat m c).before 6 t d = Gen.iblk m c 6 t :=
  (dat m c).before_in_eq_fetched 6 rfl (fun _ => rfl) (fun _ _ _ => rfl) (fun _ => rfl) t d
end Before

/-- The body runs on the windows' staging buffers and the two buffers of slabs. -/
theorem bodyAt : Gen.bodyAt0 (F := F) Gen.t0_0 = onBufs (cc0_body (F := F)) := by
  unfold Gen.bodyAt0 onBufs
  rfl

set_option maxHeartbeats 2000000 in
/-- The body's obligation. -/
theorem body_ok (c : Dev nD) : BodyObligation (dat m c) defs₀ 𝒱₀ () Set.univ := fun t => by
  obtain rfl := Gen.fin_N0 t
  rw [Gen.bigSep_W0, Gen.bigSep_W0]
  rw [phi_first, show (dat m c).Φ Gen.t0_0.succ = leaving c from phi_last m c]
  simp only [before_x, before_rw, before_ix, before_w, before_tri, before_tm, before_sr]
  rw [show defs₀ (F := F) .tc cfg0.body (cfg0.bodyArgs Gen.t0_0 (cfg0.slots Gen.t0_0)) = Gen.bodyAt0 Gen.t0_0 from rfl, bodyAt]
  have H := body_run (F := F) m c
  generalize onBufs (cc0_body (F := F)) = prog at H ⊢
  refine BIBase.Entails.trans ?_ (H _ ?_)
  · unfold entering wins winOut
    iintro ⟨⟨Hr, Hs⟩, HO, ⟨%d0, H0⟩, ⟨%d1, H1⟩, ⟨%d2, H2⟩, ⟨%d3, H3⟩, ⟨%d4, H4⟩, ⟨%d5, H5⟩, ⟨%d6, H6⟩, ⟨%d7, H7⟩⟩
    isplitl [Hr]; · iexact Hr
    isplitl [Hs]; · iexact Hs
    isplitl [HO]; · iapply (owesAt_elim (dat m c) _ _ (owed_first m c)) $$ HO
    isplitr [H7]
    · rw [← blk_x m c Gen.t0_0, ← blk_rw m c Gen.t0_0, ← blk_ix m c Gen.t0_0, ← blk_w m c Gen.t0_0, ← blk_tri m c Gen.t0_0,
        ← blk_tm m c Gen.t0_0, ← blk_sr m c Gen.t0_0]
      isplitl [H0]; · iapply (Entails.of_eq (owns_whole ..)) $$ H0
      isplitl [H1]; · iapply (Entails.of_eq (owns_whole ..)) $$ H1
      isplitl [H2]; · iapply (Entails.of_eq (owns_whole ..)) $$ H2
      isplitl [H3]; · iapply (Entails.of_eq (owns_whole ..)) $$ H3
      isplitl [H4]; · iapply (Entails.of_eq (owns_whole ..)) $$ H4
      isplitl [H5]; · iapply (Entails.of_eq (owns_whole ..)) $$ H5
      iapply (Entails.of_eq (owns_whole ..)) $$ H6
    · iexists _; iapply (Entails.of_eq (owns_whole ..)) $$ H7
  · unfold leaving wins winOut
    rw [← blk_x m c Gen.t0_0, ← blk_rw m c Gen.t0_0, ← blk_ix m c Gen.t0_0, ← blk_w m c Gen.t0_0, ← blk_tri m c Gen.t0_0,
        ← blk_tm m c Gen.t0_0, ← blk_sr m c Gen.t0_0]
    iintro ⟨Hd, Hs, HO, ⟨H0, H1, H2, H3, H4, H5, H6⟩, H7⟩
    isplitl [Hd Hs]; · isplitl [Hd] <;> iassumption
    isplitl [HO]; · iapply (owesAt_intro (dat m c) _ _ (owed_last m c) rfl) $$ HO
    isplitl [H0]; · iapply (Entails.of_eq (owns_whole ..).symm) $$ H0
    isplitl [H1]; · iapply (Entails.of_eq (owns_whole ..).symm) $$ H1
    isplitl [H2]; · iapply (Entails.of_eq (owns_whole ..).symm) $$ H2
    isplitl [H3]; · iapply (Entails.of_eq (owns_whole ..).symm) $$ H3
    isplitl [H4]; · iapply (Entails.of_eq (owns_whole ..).symm) $$ H4
    isplitl [H5]; · iapply (Entails.of_eq (owns_whole ..).symm) $$ H5
    isplitl [H6]; · iapply (Entails.of_eq (owns_whole ..).symm) $$ H6
    iapply (Entails.of_eq (owns_whole ..).symm) $$ H7

end Cert.Moe
-- ==== Proof.Run.lean ====
/-
  The launch: what every device starts from made of the machine's initial state, the program as its host operations and its one region, and
  the run of the whole program.
-/
module

public import proofs.«01_k».proof.Proof.Region2

@[expose] public section

noncomputable section

namespace Cert.Moe

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

abbrev adm : (p : Fin 1) → (pcfgs (F := F) p).Adm := fun p => (cfgs p).toPCfg_adm

def pdats (p : Fin 1) (c : Dev nD) : Dat τ (Elt F) Unit ℕ UU ℕ (Pipeline.pin (pcfgs (F := F)) adm p) c := match p with
  | 0 => dat m c

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

/-- A device's buffers at the launch, when the region is entered, and at the end. -/
abbrev V₀ (c : Dev nD) : Valuation τ sig (Elt F) := fun b => m (c, b)
abbrev V₁ (c : Dev nD) : Valuation τ sig (Elt F) := StableHlo.after Gen.hostOps0 (V₀ m c)
def V₂ (c : Dev nD) : Valuation τ sig (Elt F) := Function.update (V₁ m c) (Proc.devRef .tc main_v32) (result m c)

theorem V₂_out (c : Dev nD) : V₂ m c (Proc.devRef .tc main_v32) = result m c := Function.update_self ..
theorem V₂_of_ne (c : Dev nD) {b : DevRef τ sig} (h : b ≠ Proc.devRef .tc main_v32) : V₂ m c b = V₁ m c b := Function.update_of_ne h ..

abbrev uc : Finset (DevRef τ sig) := Pipeline.ucRefs τ sig
abbrev arrs : Finset (DevRef τ sig) := Pipeline.arrRefs (τ := τ) spec0

theorem arrs_sub : arrs ⊆ uc := Pipeline.arrRefs_sub_ucRefs spec0 (by decide)

theorem out_mem_arrs : Proc.devRef .tc main_v32 ∈ arrs :=
  Finset.mem_map_of_mem _ (Finset.mem_image_of_mem _ (Finset.mem_univ (7 : Fin 8)))

/-- What the barrier's counter ends at. -/
abbrev out (c : Dev nD) : sProp 𝕄 := semVal (barCell c) 0

/-- What the body starts from beside the buffers. -/
abbrev begun (c : Dev nD) : sProp 𝕄 := ready m c

theorem region_in (c : Dev nD) :
    iprop(Pipeline.scopedRest (Pipeline.pin (pcfgs (F := F)) adm 0).spec c ∗ (∃ r, prngReg c r) ∗ StableHlo.held (c.tc : Thread nD τ) ∅ (V₁ m c) ∗ begun m c)
      ⊢ (pdats m 0 c).Φ 0 := by
  rw [show (pdats m 0 c).Φ 0 = entering m c from phi_zero m c]
  rw [show Pipeline.scopedRest (Ix := Unit) (Name := ℕ) (U := UU) (Lvl := ℕ) (Val := Elt F) (Pipeline.pin (pcfgs (F := F)) adm 0).spec c = _ from Gen.scopedRest0_eq c]
  unfold entering scratch
  iintro ⟨⟨H0, H1⟩, Hp, -, Hr⟩
  isplitl [Hr]; · iexact Hr
  isplitl [H0]; · iexact H0
  isplitl [H1] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ out c) := by
  rw [show (pdats m 0 c).Φ (Fin.last (Pipeline.pin (pcfgs (F := F)) adm 0).N) = leaving c from phi_last m c]
  rw [show Pipeline.scopedRest (Ix := Unit) (Name := ℕ) (U := UU) (Lvl := ℕ) (Val := Elt F) (Pipeline.pin (pcfgs (F := F)) adm 0).spec c = _ from Gen.scopedRest0_eq c]
  unfold leaving done scratch
  iintro ⟨⟨Hb, Ho⟩, H0, H1, Hp⟩
  isplitl [H0 H1]; · isplitl [H0] <;> iassumption
  isplitl [Hp]; · iexact Hp
  isplitr; · unfold StableHlo.held; rw [bigSep_empty]; iempintro
  isplitl [Ho] <;> iassumption

/-- Whatever a device still owes lies above its staging cells. -/
theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · cases i
    rcases owS_pos h with ⟨o, rfl⟩ | ⟨o, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

theorem lv_stage (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  revert s; revert w
  exact (by decide +kernel : ∀ (w : Fin 8) (s : Fin (spec0 w).nbuf), lv (((0 : Dev nD) : Thread nD τ), .dma ((spec0 w).sem s)) () ≤ 0)

/-- Where each window's array starts and ends. -/
theorem arr_start (c : Dev nD) (w : Fin 8) : (dat m c).arrAt w 0 = V₁ m c (Proc.devRef .tc (Pipeline.arrRef spec0 w)) := rfl

theorem arr_end (c : Dev nD) (w : Fin 8) : (dat m c).arrAt w cfg0.N = V₂ m c (Proc.devRef .tc (Pipeline.arrRef spec0 w)) := by
  by_cases hw : w = 7
  · subst hw
    rw [show V₂ m c (Proc.devRef .tc (Pipeline.arrRef spec0 7)) = result m c from V₂_out m c]
    exact funext fun i => (dat m c).arrAt_emb_eq_after_last 7 Gen.t0_0 (by decide +kernel) i
  · rw [V₂_of_ne m c (fun h => hw (Gen.winFacts0.arr_inj (Proc.devRef_injective _ h)))]
    exact ((dat m c).arrAt_in w (by revert hw; revert w; decide) cfg0.N)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The kernel's region. -/
def region : ℝ𝕊 0 :=
  Pipeline.RegionSeg.ofTalk (pcfgs (F := F)) adm (pdats m) () defs₀ 𝒱₀ L lv 0 osem osem_facts
    ∅ (uc \ arrs) (Finset.empty_subset _) kit rfl (fun c => (body_ok m c).loose)
    (fun _ => 0) O₀ (fun c => (owed_zero m c).trans (zero_add _).symm) (owed_last m) (fun _ => rfl) (fun _ _ => ite_self _)
    (V₁ m) (V₂ m) (fun c b hb => V₂_of_ne m c fun h => (Finset.mem_sdiff.mp (Finset.mem_sdiff.mp hb).1).2 (h ▸ out_mem_arrs))
    (kept m) out (begun m) out (open_ready m) (region_in m) (region_out m)
    (fun c => by iintro H; imodintro; iexact H)
    (fun _ => 0)
    ⟨fun c w s => by rw [L_tc]; exact Finset.mem_singleton_self _, fun c w s => lv_stage c w s, fun c t g i h => cut m c t g i h⟩
    (fun _ => iprop(emp))
    (arr_start m) (arr_end m)

/-! ## The launch -/

/-- What rides beside the buffers from the launch to the region. -/
def beside (c : Dev nD) : sProp 𝕄 := iprop(kept m c ∗ (∃ r, prngReg c r) ∗ ow (F := F) c (O₀ c))

abbrev T₀ (c : Dev nD) : sProp 𝕄 := iprop(StableHlo.held (c : Thread nD τ) uc (V₀ m c) ∗ beside m c)
abbrev Tₙ (c : Dev nD) : sProp 𝕄 := iprop(StableHlo.held (c : Thread nD τ) uc (V₂ m c) ∗ out c)

theorem host_sub : ∀ op ∈ (Gen.hostOps0 : List (HloOp τ sig (Elt F))), op.bufs ⊆ uc := fun op h =>
  Pipeline.sub_ucRefs op (List.forall_iff_forall_mem.mp Gen.hostOps0_sub op h)
theorem host_fresh : ∀ op ∈ (Gen.hostOps0 : List (HloOp τ sig (Elt F))), op.fresh = ∅ := fun op h =>
  List.forall_iff_forall_mem.mp Gen.hostOps0_fresh op h

/-- The host operations before the region. -/
def host : ℍ := Pipeline.HostSeg.ofOps _ _ _ _ _ uc Gen.hostOps0 host_sub host_fresh (V₀ m) (beside m)

def segs : List (Pipeline.Seg (pcfgs (F := F)) adm (pdats m) () defs₀ 𝒱₀ L lv) := [.host (host m), .region (region m)]

theorem enter (c : Dev nD) : iprop(StableHlo.held (c : Thread nD τ) uc (V₁ m c) ∗ beside m c) ⊢ (region m).pre c := by
  show _ ⊢ iprop(StableHlo.held (c.tc : Thread nD τ) arrs (V₁ m c) ∗ (∃ r, prngReg c r)
    ∗ (StableHlo.held (c.tc : Thread nD τ) (uc \ arrs) (V₁ m c) ∗ emp) ∗ kept m c ∗ ∃ Wd, owes (c : Thread nD τ) (0 + O₀ c) Wd)
  rw [StableHlo.held_sub_split (c : Thread nD τ) arrs_sub (V₁ m c), zero_add]
  unfold beside ow
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem leave (c : Dev nD) : (region m).post c
    ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (uc \ arrs) (V₂ m c) ∗ emp) ∗ out c ∗ ∃ Wd, owes (c : Thread nD τ) (0 : CellTallies nD τ sig Unit) Wd) ⊢ _
  unfold Tₙ
  rw [StableHlo.held_sub_split (c : Thread nD τ) arrs_sub (V₂ m c)]
  iintro ⟨Ha, -, ⟨Hr, -⟩, Hb, HO⟩
  isplitr [HO]
  · isplitr [Hb]
    · isplitl [Ha] <;> iassumption
    · iexact Hb
  · iexact HO

/-- The launch element: the pipeline's beside the exchange's. -/
def u₀ : UU :=
  (initOf (Pipeline.cells (Pipeline.pin (pcfgs (F := F)) adm) Gen.cellOf_inj) (Pipeline.launchToks (Pipeline.pin (pcfgs (F := F)) adm) Gen.cellOf_inj),
    launchOf barCells ownCells tokens)

/-- A resource held by device `0` alone. -/
def atZero (X : sProp 𝕄) (c : Dev nD) : sProp 𝕄 := if c = 0 then X else iprop(emp)
theorem bigSep_atZero (X : sProp 𝕄) : bigSep Finset.univ (atZero X) = X := by
  rw [bigSep_univ_at _ 0, bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

abbrev G : Dev nD → sProp 𝕄 := atZero (BI.own (ER (launchOf barCells ownCells tokens)))

theorem unscoped_eq : ∀ sm : SemLoc sig, sm.isScoped .tc = false → sm = .reg barS := by decide +kernel

theorem unscopedSems0_eq (c : Dev nD) : (unscopedSems0 c : sProp 𝕄) = semVal (barCell c) 0 := by
  unfold unscopedSems0
  rw [show (Finset.univ.filter fun sm : SemLoc sig => ¬ sm.isScoped .tc = true) = {SemLoc.reg barS} from by decide +kernel, bigSep_singleton]

/-- What of a device's launch holdings is not the exchange's. -/
def bundle (c : Dev nD) : sProp 𝕄 :=
  iprop(StableHlo.held (c : Thread nD τ) uc (V₀ m c)
    ∗ (cred (tallyAt (barCell c) () 15) ∗ bigSep (ahead 0) fun o => cred (tallyAt (recvCell c (pr o c)) () N))
    ∗ owes (c : Thread nD τ) (O₀ c) ∅ ∗ ∃ r, prngReg c r)

theorem T₀_intro (K : GSem nD τ sig → ℕ) (c : Dev nD) : iprop(records (sb m) K ∗ (dealt c ∗ bundle m c)) ⊢ T₀ m c := by
  unfold bundle T₀ beside kept ow
  iintro ⟨#HR, Hl, Hh, ⟨H1, HN⟩, HO, Hp⟩
  isplitl [Hh]; · iexact Hh
  isplitr [HO Hp]
  · isplitl [Hl]
    · iexists K
      isplitr; · iexact HR
      iexact Hl
    isplitl [H1] <;> iassumption
  · isplitl [Hp]; · iexact Hp
    iexists ∅; iexact HO

/-- Everything every device starts from, made at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) uc (V₀ m c) from
      Pipeline.unscopedBufs_held c (V₀ m c), unscopedSems0_eq]
    unfold bundle
    iintro ⟨Hh, Hus, HO, Hcr, Hp, HG⟩
    ihave Hc := (creds (F := F) c) $$ Hcr
    isplitr [Hus HG]
    · isplitl [Hh]; · iexact Hh
      isplitl [Hc]; · iexact Hc
      isplitl [HO]; · iexact HO
      iexists (ρ c); iexact Hp
    · isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => iprop((bigSep Finset.univ fun o => openTok ER (sendCell c o)) ∗ bigSep Finset.univ fun s => openTok ER (recvCell c s))) :=
    Entails.of_eq (by
      rw [bigSep_map, bigSep_univ_prod]
      exact bigSep_congr fun c _ => own_split c fun g => (openTok ER g : sProp 𝕄))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := part $$ H'; icases H2 with ⟨HB, H3⟩
  ihave H4 := part $$ H3; icases H4 with ⟨Hv, HG⟩
  ihave Hu := (Entails.of_eq (bigSep_atZero (F := F) (BI.own (ER (launchOf barCells ownCells tokens))))) $$ HG
  imod (Rounds.fund_launch ER (talkRd (sb m)) disjoint_cells (fun g _ h => h) tokens) $$ [Hv Hu] with ⟨%κ, -, #Hinv, #Hr, Hat, Hopen, Htok⟩
  · isplitl [Hv]
    · iapply hv $$ Hv
    · iexact Hu
  imodintro
  iapply (bigSep_with_persistent (R := records (sb m) κ) (Φ := fun c => iprop(dealt c ∗ bundle m c)) fun c _ => T₀_intro m κ c)
  isplitr
  · unfold records
    isplitr; · iexact Hinv
    iexact Hr
  iapply join
  isplitr [HB]
  · unfold dealt
    iapply join; isplitl [Hat]; · iapply hat $$ Hat
    iapply join; isplitl [Hopen]; · iapply hopen $$ Hopen
    iapply (tokens_deal (F := F)) $$ Htok
  · iexact HB

/-- The buffers the run reports. -/
abbrev shown : Finset (DevRef τ sig) :=
  {Proc.devRef .tc main_arg0, Proc.devRef .tc main_arg1, Proc.devRef .tc main_arg2, Proc.devRef .tc main_arg3, Proc.devRef .tc main_v32}

theorem shown_sub : shown ⊆ uc := by decide +kernel

theorem held_shown (c : Dev nD) (V : Valuation τ sig (Elt F)) :
    (StableHlo.held (c : Thread nD τ) shown V : sProp 𝕄)
      = iprop(((c, Proc.devRef .tc main_arg0) ↦{fullShare} V (Proc.devRef .tc main_arg0)) ∗ ((c, Proc.devRef .tc main_arg1) ↦{fullShare} V (Proc.devRef .tc main_arg1))
        ∗ ((c, Proc.devRef .tc main_arg2) ↦{fullShare} V (Proc.devRef .tc main_arg2)) ∗ ((c, Proc.devRef .tc main_arg3) ↦{fullShare} V (Proc.devRef .tc main_arg3))
        ∗ ((c, Proc.devRef .tc main_v32) ↦{fullShare} V (Proc.devRef .tc main_v32))) := by
  unfold StableHlo.held shown
  rw [bigSep_insert (by decide), bigSep_insert (by decide), bigSep_insert (by decide), bigSep_insert (by decide), bigSep_singleton]
  rfl

/-- What the run leaves on a device. -/
def Left (c : Dev nD) (s : MemSt nD τ sig (Elt F)) : Prop :=
  s.mem ((c : Thread nD τ).loc main_v32) = result m c ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3)

theorem V₂_arg0 (c : Dev nD) : V₂ m c (Proc.devRef .tc main_arg0) = m ((c : Thread nD τ).loc main_arg0) :=
  (V₂_of_ne m c (by decide)).trans (Gen.V_main_arg0 m c)
theorem V₂_arg1 (c : Dev nD) : V₂ m c (Proc.devRef .tc main_arg1) = m ((c : Thread nD τ).loc main_arg1) :=
  (V₂_of_ne m c (by decide)).trans (Gen.V_main_arg1 m c)
theorem V₂_arg2 (c : Dev nD) : V₂ m c (Proc.devRef .tc main_arg2) = m ((c : Thread nD τ).loc main_arg2) :=
  (V₂_of_ne m c (by decide)).trans (Gen.V_main_arg2 m c)
theorem V₂_arg3 (c : Dev nD) : V₂ m c (Proc.devRef .tc main_arg3) = m ((c : Thread nD τ).loc main_arg3) :=
  (V₂_of_ne m c (by decide)).trans (Gen.V_main_arg3 m c)

set_option backward.isDefEq.respectTransparency.types false in
/-- The run: every fair execution on the sixteen devices ends, each device's result is `result`, the arguments are unchanged, and every
    semaphore is at zero. -/
theorem run_main : θ_run defs (onTc (τ := τ) (main (F := F))) ⟨m, fun _ => 0, ρ⟩ (fun r => (∀ c : Dev nD, Left m c r.2) ∧ r.2.sem = fun _ => 0) :=
  Pipeline.θ_run_regions_kit_sems (pcfgs (F := F)) adm (pdats m) () Gen.cellOf_inj EP defs₀ 𝒱₀ L lv m ρ main (segs m)
    (fun c Q => by rw [Gen.main_segs adm (pdats m) () 𝒱₀ L lv (host m) (region m) rfl c]; exact .rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun c => .rfl, fun c => enter m c, fun c => leave m c⟩)
    (hinit := init m ρ)
    (QY := fun c s => Left m c s ∧ s.sem (barCell c) = 0)
    (hfin := fun c s' => by
      dsimp only [Tₙ]; rw [StableHlo.held_sub_split (c : Thread nD τ) shown_sub, held_shown, V₂_out, V₂_arg0, V₂_arg1, V₂_arg2, V₂_arg3]
      iintro ⟨⟨⟨⟨H0, H1, H2, H3, H4⟩, -⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h4, Buf.eq_of_forall_mem_univ h0, Buf.eq_of_forall_mem_univ h1, Buf.eq_of_forall_mem_univ h2,
          Buf.eq_of_forall_mem_univ h3⟩, by simpa using hb⟩
      iexact HSI)
    (hQ := fun s h hs => ⟨fun c => (h c).1, sem_eq_zero hs fun c sm hsm => by
      obtain rfl := unscoped_eq sm hsm
      exact (h c).2⟩)

end Cert.Moe
-- ==== Proof.Score.lean ====
/-
  The softmax probabilities of the router over the extended reals, what is asked of the arguments, and the gates of a token: the
  probability of each of its two experts over the sum of both.
-/
module

public import proofs.«01_k».proof.Proof.Vals
public import Idealize.ShloMosaic.Lib.Pointwise

@[expose] public section

noncomputable section

namespace Cert.Moe

open Cert.KernelIdeal
open Idealize.ShloMosaic

/-- Every element is a real number. -/
def Real' {ι : Type} (f : ι → EReal) : Prop := ∀ i, ∃ r : ℝ, f i = (r : EReal)

/-- The sum of real numbers taken among the extended reals is their sum. -/
theorem coe_sum' {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- A sum of real numbers is a real number. -/
theorem real_sum {ι : Type} (S : Finset ι) (f : ι → EReal) (h : Real' f) : ∃ r : ℝ, ∑ i ∈ S, f i = (r : EReal) := by
  choose g hg using h
  refine ⟨∑ i ∈ S, g i, ?_⟩
  rw [coe_sum']
  exact Finset.sum_congr rfl fun i _ => hg i

/-- A sum over a nonempty range of positive real numbers is a positive real number. -/
theorem pos_sum {n : ℕ} (f : Fin (n + 1) → EReal) (h : ∀ i, ∃ r : ℝ, 0 < r ∧ f i = (r : EReal)) :
    ∃ r : ℝ, 0 < r ∧ ∑ i, f i = (r : EReal) := by
  choose g hg using h
  refine ⟨∑ i, g i, Finset.sum_pos (fun i _ => (hg i).1) Finset.univ_nonempty, ?_⟩
  rw [coe_sum']
  exact Finset.sum_congr rfl fun i _ => (hg i).2

/-- The quotient of two positive real numbers is one. -/
theorem pos_div {a b : EReal} (ha : ∃ r : ℝ, 0 < r ∧ a = (r : EReal)) (hb : ∃ r : ℝ, 0 < r ∧ b = (r : EReal)) :
    ∃ r : ℝ, 0 < r ∧ Ideal.div a b = (r : EReal) := by
  obtain ⟨r, hr, rfl⟩ := ha
  obtain ⟨s, hs, rfl⟩ := hb
  refine ⟨r * (1 / s), mul_pos hr (one_div_pos.mpr hs), ?_⟩
  rw [Ideal.div_coe hs.ne', EReal.coe_mul]

/-- Zero over a positive real number is zero. -/
theorem zero_div' {b : EReal} (hb : ∃ r : ℝ, 0 < r ∧ b = (r : EReal)) : Ideal.div 0 b = 0 := by
  obtain ⟨s, hs, rfl⟩ := hb
  rw [Ideal.div_coe hs.ne', zero_mul]

/-- The word a comparison gives, as a float, is one where it holds and zero elsewhere. -/
theorem word_of (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-- A small natural number's word, as a float, is the number. -/
theorem word_nat (n : ℕ) (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- One half. -/
theorem half_lt : Ideal.ofBits .f32 0x3F000000#32 = ((1 / 2 : ℝ) : EReal) := by
  simp [Ideal.ofBits, Ideal.ieee, -EReal.coe_mul]; norm_num

/-! ### The router -/

variable (x : S1024x512.Idx → EReal) (rw : S512x64.Idx → EReal)

/-- The router's score of a token for an expert. -/
def score (i : Fin 1024) (e : Fin 64) : EReal := ∑ d : Fin 512, x (ix2 i d) * rw (ix2 d e)

/-- Its exponential below the token's largest score. -/
def wt (i : Fin 1024) (e : Fin 64) : EReal :=
  Ideal.exp (score x rw i e - Finset.fold max (Ideal.ofBits .f32 0xFF800000#32) (fun e' => score x rw i e') Finset.univ)

/-- The softmax probability. -/
def prob (i : Fin 1024) (e : Fin 64) : EReal := Ideal.div (wt x rw i e) (∑ e', wt x rw i e')

variable {x rw}

theorem score_real (hx : Real' x) (hr : Real' rw) (i : Fin 1024) : Real' (score x rw i) := fun e => by
  refine real_sum _ _ fun d => ?_
  obtain ⟨a, ha⟩ := hx (ix2 i d)
  obtain ⟨b, hb⟩ := hr (ix2 d e)
  exact ⟨a * b, by rw [ha, hb, EReal.coe_mul]⟩

/-- The largest of finitely many real numbers, none of a nonempty range left out, is a real number. -/
theorem top_real {n : ℕ} (f : Fin (n + 1) → EReal) (h : Real' f) :
    ∃ r : ℝ, Finset.fold max (Ideal.ofBits .f32 0xFF800000#32) f Finset.univ = (r : EReal) := by
  have hb : Ideal.ofBits .f32 0xFF800000#32 = ⊥ := by simp [Ideal.ofBits, Ideal.ieee]
  rw [hb]
  have h1 : Finset.fold max ⊥ f Finset.univ ≠ ⊤ := by
    apply ne_of_lt
    rw [Finset.fold_max_lt]
    refine ⟨bot_lt_top, fun i _ => ?_⟩
    obtain ⟨r, hr⟩ := h i
    rw [hr]; exact EReal.coe_lt_top r
  have h2 : Finset.fold max ⊥ f Finset.univ ≠ ⊥ := by
    apply ne_of_gt
    rw [Finset.lt_fold_max]
    obtain ⟨r, hr⟩ := h 0
    exact .inr ⟨0, Finset.mem_univ _, by rw [hr]; exact EReal.bot_lt_coe r⟩
  exact ⟨_, (EReal.coe_toReal h1 h2).symm⟩

theorem wt_pos (hx : Real' x) (hr : Real' rw) (i : Fin 1024) (e : Fin 64) : ∃ r : ℝ, 0 < r ∧ wt x rw i e = (r : EReal) := by
  obtain ⟨a, ha⟩ := score_real hx hr i e
  obtain ⟨b, hb⟩ := top_real (n := 63) (score x rw i) (score_real hx hr i)
  refine ⟨Real.exp (a - b), Real.exp_pos _, ?_⟩
  unfold wt
  rw [ha, hb, ← EReal.coe_sub, Ideal.exp_coe]

theorem prob_pos (hx : Real' x) (hr : Real' rw) (i : Fin 1024) (e : Fin 64) : ∃ r : ℝ, 0 < r ∧ prob x rw i e = (r : EReal) :=
  pos_div (wt_pos hx hr i e) (pos_sum (n := 63) _ (wt_pos hx hr i))

/-! ### What is asked of the arguments -/

/-- Token `a` of chunk `c`. -/
def tok (c : Fin 16) (a : Fin 64) : Fin 1024 := ⟨64 * c.val + a.val, by omega⟩
/-- Expert `j` of device `s`. -/
def exn (s : Fin 16) (j : Fin 4) : Fin 64 := ⟨4 * s.val + j.val, by omega⟩

/-- The tokens and the router's weights are real; each token's two experts are two different ones of the sixty-four; of a chunk's
    tokens at most twenty-four have an expert on one device. -/
structure Routed (x : S1024x512.Idx → EReal) (rw : S512x64.Idx → EReal) (ix : S1024x2.Idx → BitVec 32) where
  e0 : Fin 1024 → Fin 64
  e1 : Fin 1024 → Fin 64
  at0 : ∀ i, ix (ix2 i 0) = BitVec.ofNat 32 (e0 i).val
  at1 : ∀ i, ix (ix2 i 1) = BitVec.ofNat 32 (e1 i).val
  ne : ∀ i, e0 i ≠ e1 i
  x_real : Real' x
  rw_real : Real' rw
  load : ∀ c s : Fin 16,
    (Finset.univ.filter fun a : Fin 64 => (e0 (tok c a)).val / 4 = s.val ∨ (e1 (tok c a)).val / 4 = s.val).card ≤ 24

namespace Routed
variable {ix : S1024x2.Idx → BitVec 32} (R : Routed x rw ix)

/-- Whether a token has one of device `s`'s experts. -/
def on (s : Fin 16) (i : Fin 1024) : Prop := (R.e0 i).val / 4 = s.val ∨ (R.e1 i).val / 4 = s.val

instance (s : Fin 16) (i : Fin 1024) : Decidable (R.on s i) := inferInstanceAs (Decidable (_ ∨ _))

/-- The sum of a token's two probabilities. -/
def both (i : Fin 1024) : EReal := prob x rw i (R.e0 i) + prob x rw i (R.e1 i)

theorem both_pos (i : Fin 1024) : ∃ r : ℝ, 0 < r ∧ R.both i = (r : EReal) := by
  obtain ⟨a, ha, hA⟩ := prob_pos R.x_real R.rw_real i (R.e0 i)
  obtain ⟨b, hb, hB⟩ := prob_pos R.x_real R.rw_real i (R.e1 i)
  exact ⟨a + b, add_pos ha hb, by unfold both; rw [hA, hB, EReal.coe_add]⟩

/-- The weight of an expert in a token's result. -/
def share (i : Fin 1024) (e : Fin 64) : EReal := if e = R.e0 i ∨ e = R.e1 i then Ideal.div (prob x rw i e) (R.both i) else 0

theorem share_pos (i : Fin 1024) (e : Fin 64) (h : e = R.e0 i ∨ e = R.e1 i) : ∃ r : ℝ, 0 < r ∧ R.share i e = (r : EReal) := by
  unfold share
  rw [if_pos h]
  exact pos_div (prob_pos R.x_real R.rw_real i e) (R.both_pos i)

theorem share_real (i : Fin 1024) (e : Fin 64) : ∃ r : ℝ, 0 ≤ r ∧ R.share i e = (r : EReal) := by
  by_cases h : e = R.e0 i ∨ e = R.e1 i
  · obtain ⟨r, hr, e⟩ := R.share_pos i e h
    exact ⟨r, hr.le, e⟩
  · exact ⟨0, le_rfl, by unfold share; rw [if_neg h]; rfl⟩

/-- A token's weights at one device's experts are all zero unless the device has one of its experts. -/
theorem share_off (s : Fin 16) (i : Fin 1024) (h : ¬ R.on s i) (j : Fin 4) : R.share i (exn s j) = 0 := by
  unfold share
  refine if_neg fun h' => h ?_
  have hj := j.isLt
  rcases h' with h' | h'
  · exact .inl (by rw [← h']; show (4 * s.val + j.val) / 4 = s.val; omega)
  · exact .inr (by rw [← h']; show (4 * s.val + j.val) / 4 = s.val; omega)

/-- Their sum is positive exactly when it has. -/
theorem share_sum (s : Fin 16) (i : Fin 1024) : 0 < ∑ j : Fin 4, R.share i (exn s j) ↔ R.on s i := by
  constructor
  · intro h
    by_contra hn
    rw [Finset.sum_eq_zero fun j _ => R.share_off s i hn j] at h
    exact lt_irrefl _ h
  · intro h
    have key : ∀ e : Fin 64, (e = R.e0 i ∨ e = R.e1 i) → e.val / 4 = s.val → 0 < ∑ j : Fin 4, R.share i (exn s j) := by
      intro e he hs
      have hx : exn s ⟨e.val % 4, Nat.mod_lt _ (by decide)⟩ = e := Fin.ext (by show 4 * s.val + e.val % 4 = e.val; omega)
      obtain ⟨r, hr, hR⟩ := R.share_pos i e he
      refine lt_of_lt_of_le (b := R.share i e) (by rw [hR]; exact_mod_cast hr) ?_
      refine le_trans (le_of_eq (by rw [hx])) (Finset.single_le_sum (f := fun j : Fin 4 => R.share i (exn s j)) (fun j _ => ?_)
        (Finset.mem_univ (⟨e.val % 4, Nat.mod_lt _ (by decide)⟩ : Fin 4)))
      obtain ⟨q, hq, hQ⟩ := R.share_real i (exn s j)
      show 0 ≤ R.share i (exn s j)
      rw [hQ]; exact_mod_cast hq
    rcases h with h | h
    · exact key _ (.inl rfl) h
    · exact key _ (.inr rfl) h

end Routed

/-! ### A token's result -/

/-- A nonnegative real number distributes over a sum. -/
theorem real_mul_sum {ι : Type} (S : Finset ι) (f : ι → EReal) (r : ℝ) (hr : 0 ≤ r) : (r : EReal) * ∑ i ∈ S, f i = ∑ i ∈ S, (r : EReal) * f i := by
  classical
  induction S using Finset.induction_on with
  | empty => simp
  | insert a S ha ih =>
    rw [Finset.sum_insert ha, Finset.sum_insert ha, ← ih]
    exact EReal.left_distrib_of_nonneg_of_ne_top (by exact_mod_cast hr) (EReal.coe_ne_top r) _ _

theorem block_lt {A B a b : ℕ} (ha : a < A) (hb : b < B) : B * a + b < A * B := by
  have := Nat.mul_le_mul_left B (Nat.succ_le_of_lt ha)
  rw [Nat.mul_succ, Nat.mul_comm B A] at this
  omega

/-- A sum over a range is one over its blocks of one over each block. -/
theorem sum_blocks {A B : ℕ} (hB : 0 < B) (f : Fin (A * B) → EReal) :
    ∑ a : Fin A, ∑ b : Fin B, f ⟨B * a.val + b.val, block_lt a.isLt b.isLt⟩ = ∑ e, f e := by
  rw [← Fintype.sum_prod_type' (f := fun (a : Fin A) (b : Fin B) => f ⟨B * a.val + b.val, block_lt a.isLt b.isLt⟩)]
  refine Fintype.sum_equiv ⟨fun p => ⟨B * p.1.val + p.2.val, block_lt p.1.isLt p.2.isLt⟩,
    fun e => (⟨e.val / B, Nat.div_lt_of_lt_mul (lt_of_lt_of_eq e.isLt (Nat.mul_comm A B))⟩, ⟨e.val % B, Nat.mod_lt _ hB⟩), ?_, ?_⟩ _ _ fun p => rfl
  · rintro ⟨a, b⟩
    refine Prod.ext (Fin.ext ?_) (Fin.ext ?_)
    · show (B * a.val + b.val) / B = a.val
      rw [Nat.mul_add_div hB, Nat.div_eq_of_lt b.isLt, Nat.add_zero]
    · show (B * a.val + b.val) % B = b.val
      rw [Nat.mul_add_mod, Nat.mod_eq_of_lt b.isLt]
  · intro e
    exact Fin.ext (Nat.div_add_mod _ _)

/-- The products of a token with its two experts' weights, each times the expert's share. -/
def mixed {ix : S1024x2.Idx → BitVec 32} (R : Routed x rw ix) (W : Fin 64 → Fin 512 → Fin 1024 → EReal) (i h : Fin 1024) : EReal :=
  Ideal.div (prob x rw i (R.e0 i)) (R.both i) * (∑ d : Fin 512, x (ix2 i d) * W (R.e0 i) d h)
    + Ideal.div (prob x rw i (R.e1 i)) (R.both i) * (∑ d : Fin 512, x (ix2 i d) * W (R.e1 i) d h)

/-- They are the sum over all experts of the token times its share of the expert, multiplied by the expert's weights. -/
theorem mixed_eq {ix : S1024x2.Idx → BitVec 32} (R : Routed x rw ix) (W : Fin 64 → Fin 512 → Fin 1024 → EReal) (i h : Fin 1024) :
    ∑ e : Fin 64, ∑ d : Fin 512, x (ix2 i d) * R.share i e * W e d h = mixed R W i h := by
  have h1 : ∀ e : Fin 64, ∑ d : Fin 512, x (ix2 i d) * R.share i e * W e d h
      = R.share i e * ∑ d : Fin 512, x (ix2 i d) * W e d h := fun e => by
    obtain ⟨r, hr, hR⟩ := R.share_real i e
    rw [hR, real_mul_sum _ _ r hr]
    refine Finset.sum_congr rfl fun d _ => ?_
    rw [mul_comm (x (ix2 i d)), mul_assoc]
  rw [Finset.sum_congr rfl fun e _ => h1 e]
  rw [Finset.sum_eq_add (R.e0 i) (R.e1 i) (R.ne i) (fun e _ he => by
      unfold Routed.share
      rw [if_neg fun h' => h'.elim he.1 he.2, zero_mul])
    (fun h' => absurd (Finset.mem_univ _) h') (fun h' => absurd (Finset.mem_univ _) h')]
  unfold mixed Routed.share
  rw [if_pos (.inl rfl), if_pos (.inr rfl)]

end Cert.Moe

end
-- ==== Proof.Rank.lean ====
/-
  The place of a token among the tokens of its chunk that a device has an expert for: places are counted from one, go up to twenty-four,
  and no two such tokens of one chunk share one.
-/
module

public import proofs.«01_k».proof.Proof.Score

@[expose] public section

noncomputable section

namespace Cert.Moe

open Cert.KernelIdeal
open Idealize.ShloMosaic

/-- Of a sum in which one term's factor is one and all others' zero, that term is left. -/
theorem sum_pick {ι : Type} [Fintype ι] (A : ι → Prop) [DecidablePred A] (f : ι → EReal) (k : ι) (h : ∀ i, A i ↔ i = k) :
    ∑ i, (if A i then (1 : EReal) else 0) * f i = f k := by
  rw [Finset.sum_eq_single k (fun i _ hi => by rw [if_neg fun ha => hi ((h i).mp ha), zero_mul])
    (fun hk => absurd (Finset.mem_univ _) hk), if_pos ((h k).mpr rfl), one_mul]

/-- Of one in which all factors are zero, nothing is left. -/
theorem sum_none {ι : Type} [Fintype ι] (A : ι → Prop) [DecidablePred A] (f : ι → EReal) (h : ∀ i, ¬ A i) :
    ∑ i, (if A i then (1 : EReal) else 0) * f i = 0 :=
  Finset.sum_eq_zero fun i _ => by rw [if_neg (h i), zero_mul]

/-- A sum of ones and zeros counts the ones. -/
theorem sum_count {ι : Type} (S : Finset ι) (A : ι → Prop) [DecidablePred A] :
    ∑ i ∈ S, (if A i then (1 : EReal) else 0) = (((S.filter A).card : ℝ) : EReal) := by
  classical
  have h : ∀ i, (if A i then (1 : EReal) else 0) = ((if A i then (1 : ℝ) else 0 : ℝ) : EReal) := fun i => by split_ifs <;> rfl
  rw [Finset.sum_congr rfl fun i _ => h i, ← coe_sum', Finset.sum_boole]

/-- The tokens of `i`'s chunk up to `i` with the property. -/
def upto (P : Fin 1024 → Prop) [DecidablePred P] (i : Fin 1024) : Finset (Fin 1024) :=
  Finset.univ.filter fun k => (k.val / 64 = i.val / 64 ∧ k.val ≤ i.val) ∧ P k

/-- How many they are. -/
def place (P : Fin 1024 → Prop) [DecidablePred P] (i : Fin 1024) : ℕ := (upto P i).card

section
variable {P : Fin 1024 → Prop} [DecidablePred P]

theorem place_pos {i : Fin 1024} (h : P i) : 1 ≤ place P i :=
  Finset.card_pos.mpr ⟨i, Finset.mem_filter.mpr ⟨Finset.mem_univ _, ⟨rfl, le_rfl⟩, h⟩⟩

theorem place_lt {i k : Fin 1024} (hc : i.val / 64 = k.val / 64) (hk : P k) (hik : i.val < k.val) : place P i < place P k := by
  refine Finset.card_lt_card (Finset.ssubset_iff_subset_ne.mpr ⟨fun a ha => ?_, fun he => ?_⟩)
  · obtain ⟨-, ⟨h1, h2⟩, h3⟩ := Finset.mem_filter.mp ha
    exact Finset.mem_filter.mpr ⟨Finset.mem_univ _, ⟨by omega, by omega⟩, h3⟩
  · have hm : k ∈ upto P k := Finset.mem_filter.mpr ⟨Finset.mem_univ _, ⟨rfl, le_rfl⟩, hk⟩
    rw [← he] at hm
    obtain ⟨-, ⟨-, h2⟩, -⟩ := Finset.mem_filter.mp hm
    omega

theorem place_inj {i k : Fin 1024} (hc : i.val / 64 = k.val / 64) (hi : P i) (hk : P k) (h : place P i = place P k) : i = k := by
  rcases Nat.lt_trichotomy i.val k.val with h' | h' | h'
  · exact absurd h (place_lt hc hk h').ne
  · exact Fin.ext h'
  · exact absurd h (place_lt hc.symm hi h').ne'

theorem place_le (i : Fin 1024) : place P i ≤ (Finset.univ.filter fun a : Fin 64 => P (tok ⟨i.val / 64, by omega⟩ a)).card := by
  refine Finset.card_le_card_of_injOn (fun k => ⟨k.val % 64, Nat.mod_lt _ (by decide)⟩) (fun k hk => ?_) (fun k hk l hl h => ?_)
  · obtain ⟨-, ⟨h1, h2⟩, h3⟩ := Finset.mem_filter.mp hk
    refine Finset.mem_coe.mpr (Finset.mem_filter.mpr ⟨Finset.mem_univ _, ?_⟩)
    have : tok ⟨i.val / 64, by omega⟩ ⟨k.val % 64, Nat.mod_lt _ (by decide)⟩ = k :=
      Fin.ext (by show 64 * (i.val / 64) + k.val % 64 = k.val; omega)
    rw [this]; exact h3
  · obtain ⟨-, ⟨h1, -⟩, -⟩ := Finset.mem_filter.mp hk
    obtain ⟨-, ⟨h2, -⟩, -⟩ := Finset.mem_filter.mp hl
    have h' : k.val % 64 = l.val % 64 := congrArg Fin.val h
    exact Fin.ext (by omega)

theorem place_small (i : Fin 1024) : place P i ≤ 64 :=
  (place_le i).trans ((Finset.card_le_univ _).trans (by simp))

end

/-- The token at place `q + 1` of chunk `c`. -/
def at' (P : Fin 1024 → Prop) [DecidablePred P] (c : Fin 16) (q : Fin 24) (k : Fin 1024) : Prop :=
  (place P k = q.val + 1 ∧ P k) ∧ k.val / 64 = c.val

instance (P : Fin 1024 → Prop) [DecidablePred P] (c : Fin 16) (q : Fin 24) : DecidablePred (at' P c q) :=
  fun _ => inferInstanceAs (Decidable ((_ ∧ _) ∧ _))

/-- A device's token is the one at its own place. -/
theorem at_iff {P : Fin 1024 → Prop} [DecidablePred P] {c : Fin 16} {q : Fin 24} {i : Fin 1024} (hi : P i) (hc : i.val / 64 = c.val)
    (hq : place P i = q.val + 1) (k : Fin 1024) : at' P c q k ↔ k = i :=
  ⟨fun h => place_inj (h.2.trans hc.symm) h.1.2 hi (h.1.1.trans hq.symm), fun h => by subst h; exact ⟨⟨hq, hi⟩, hc⟩⟩

namespace Routed
variable {x : S1024x512.Idx → EReal} {rw : S512x64.Idx → EReal} {ix : S1024x2.Idx → BitVec 32} (R : Routed x rw ix)

theorem place_le (s : Fin 16) (i : Fin 1024) : place (R.on s) i ≤ 24 :=
  (Moe.place_le i).trans (le_trans (Finset.card_le_card fun a ha => by
    obtain ⟨h0, h1⟩ := Finset.mem_filter.mp ha
    exact Finset.mem_filter.mpr ⟨h0, h1⟩) (R.load ⟨i.val / 64, by omega⟩ s))

end Routed

end Cert.Moe

end
-- ==== Proof.Slab.lean ====
/-
  The slabs a device sends, as values over the extended reals: a chunk's rows of results by place, and the ranks and hits of its tokens.
-/
module

public import proofs.«01_k».proof.Proof.Rank
public import Idealize.ShloMosaic.Lib.Pointwise

@[expose] public section

set_option maxRecDepth 16384

noncomputable section

namespace Cert.Moe

open Cert.KernelIdeal Cert.KernelIdeal.Facts₀ Cert.KernelIdeal.Facts
open Idealize.ShloMosaic Idealize.ShloMosaic.TcCoe
open Cert.KernelIdeal.Gen (k0_pay1 k0_pay2 k0_pay3 k0_pay4 k0_pay5 k0_pay6 k0_pay7 k0_pay8 k0_pay9 k0_pay10 k0_pay11 k0_pay12 k0_pay13)

/-- What a device's arguments are: routed tokens, and the three masks. -/
structure Fed (I : Ins Ideal) where
  R : Routed I.x I.rw I.ix
  tri : ∀ a b : Fin 1024, I.tri (ix2 a b) = if a.val / 64 = b.val / 64 ∧ a.val ≤ b.val then (1 : EReal) else 0
  tm : ∀ (r : Fin 384) (b : Fin 1024), I.tm (ix2 r b) = if r.val / 24 = b.val / 64 then (1 : EReal) else 0
  sr : ∀ (r : Fin 384) (b : Fin 1024), I.sr (ix2 r b) = (((r.val % 24 + 1 : ℕ) : ℝ) : EReal)

/-! ### Words -/

theorem word_eq {a b : ℕ} (ha : a < 2 ^ 31) (hb : b < 2 ^ 31) : IntOp.cmpi .eq (BitVec.ofNat 32 a) (BitVec.ofNat 32 b) = BitVec.ofBool (decide (a = b)) := by
  have h : (BitVec.ofNat 32 a = BitVec.ofNat 32 b) ↔ a = b :=
    ⟨fun h => by
      have := congrArg BitVec.toNat h
      rwa [BitVec.toNat_ofNat, BitVec.toNat_ofNat, Nat.mod_eq_of_lt (by omega), Nat.mod_eq_of_lt (by omega)] at this, fun h => by rw [h]⟩
  show BitVec.ofBool (decide _) = _
  simp only [h]

theorem word_fin (a b : Fin 64) : IntOp.cmpi .eq (BitVec.ofNat 32 a.val) (BitVec.ofNat 32 b.val) = BitVec.ofBool (decide (a.val = b.val)) :=
  word_eq (by omega) (by omega)

theorem word_le {a b : ℕ} (ha : a < 2 ^ 31) (hb : b < 2 ^ 31) : IntOp.cmpi .sle (BitVec.ofNat 32 a) (BitVec.ofNat 32 b) = BitVec.ofBool (decide (a ≤ b)) := by
  show BitVec.ofBool (BitVec.sle _ _) = _
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp only [Int.ofNat_le]

theorem word_lt {a b : ℕ} (ha : a < 2 ^ 31) (hb : b < 2 ^ 31) : IntOp.cmpi .slt (BitVec.ofNat 32 a) (BitVec.ofNat 32 b) = BitVec.ofBool (decide (a < b)) := by
  show BitVec.ofBool (BitVec.slt _ _) = _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp only [Int.ofNat_lt]

theorem pick_bool (p : Prop) [Decidable p] {α : Type} (a b : α) : Scalar.select (BitVec.ofBool (decide p)) a b = if p then a else b := by
  by_cases h : p <;> simp [Scalar.select, h]

theorem or_bool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The word of a device's expert. -/
theorem word_exn (c : Dev nD) (j : Fin 4) :
    IntOp.addi (Scalar.muli (mine c) 4#32) (BitVec.ofNat 32 j.val) = BitVec.ofNat 32 (exn c j).val := by
  revert c j; decide

/-- The row of place `q` of chunk `p`. -/
def spot (p : Fin 16) (q : Fin 24) : Fin 384 := ⟨24 * p.val + q.val, by omega⟩

/-! ### What is loaded -/

namespace Ins
variable (I : Ins Ideal) (c : Dev nD)

theorem lX_at (i : Fin 1024) (h : Fin 512) : I.lX (ix2 i h) = I.x (ix2 i h) := by
  refine congrArg I.x ?_
  funext a; apply Fin.ext; fin_cases a <;> simp [View.emb]
theorem lRW_at (i : Fin 512) (h : Fin 64) : I.lRW (ix2 i h) = I.rw (ix2 i h) := by
  refine congrArg I.rw ?_
  funext a; apply Fin.ext; fin_cases a <;> simp [View.emb]
theorem lE0_at (i : Fin 1024) : I.lE0 (ix2 i 0) = I.ix (ix2 i 0) := by
  refine congrArg I.ix ?_
  funext a; apply Fin.ext; fin_cases a <;> simp [View.emb]
theorem lE1_at (i : Fin 1024) : I.lE1 (ix2 i 0) = I.ix (ix2 i 1) := by
  refine congrArg I.ix ?_
  funext a; apply Fin.ext; fin_cases a <;> simp
theorem lTri_at (i h : Fin 1024) : I.lTri (ix2 i h) = I.tri (ix2 i h) := by
  refine congrArg I.tri ?_
  funext a; apply Fin.ext; fin_cases a <;> simp [View.emb]
theorem lTm_at (i : Fin 384) (h : Fin 1024) : I.lTm (ix2 i h) = I.tm (ix2 i h) := by
  refine congrArg I.tm ?_
  funext a; apply Fin.ext; fin_cases a <;> simp [View.emb]
theorem lSr_at (i : Fin 384) (h : Fin 1024) : I.lSr (ix2 i h) = I.sr (ix2 i h) := by
  refine congrArg I.sr ?_
  funext a; apply Fin.ext; fin_cases a <;> simp [View.emb]
theorem lW_at (j : Fin 4) (d : Fin 512) (h : Fin 1024) : I.lW j (ix3 0 d h) = I.w (ix3 j d h) := by
  refine congrArg I.w ?_
  funext a; apply Fin.ext; fin_cases a <;> simp [View.emb]

theorem ex_at (i : Fin 1024) (e : Fin 64) : I.ex (ix2 i e) = wt I.x I.rw i e := by
  have h : I.ex (ix2 i e) = Ideal.exp (∑ d, I.lX (ix2 i d) * I.lRW (ix2 d e)
      - Finset.fold max (Ideal.ofBits .f32 0xFF800000#32) (fun e' => ∑ d, I.lX (ix2 i d) * I.lRW (ix2 d e')) Finset.univ) := by
    pointwise [Ins.ex, k0_pay2, k0_pay1]
  rw [h]; unfold wt score
  simp only [lX_at, lRW_at]

theorem sm_at (i : Fin 1024) (e : Fin 64) : I.sm (ix2 i e) = ∑ e', wt I.x I.rw i e' := by
  have h : I.sm (ix2 i e) = ∑ e', I.ex (ix2 i e') := by
    pointwise [Ins.sm, Ins.ex, k0_pay3]
  rw [h]
  exact Finset.sum_congr rfl fun e' _ => I.ex_at i e'

theorem gate_at (R : Routed I.x I.rw I.ix) (i : Fin 1024) (j : Fin 4) : I.gate c (ix2 i j) = R.share i (exn c j) := by
  have h : I.gate c (ix2 i j) = Ideal.div (Scalar.select
      (IntOp.ori (IntOp.cmpi .eq (I.lE0 (ix2 i 0)) (IntOp.addi (Scalar.muli (mine c) 4#32) (BitVec.ofNat 32 j.val)))
        (IntOp.cmpi .eq (I.lE1 (ix2 i 0)) (IntOp.addi (Scalar.muli (mine c) 4#32) (BitVec.ofNat 32 j.val))))
      (∑ e : Fin 64, Ideal.div (I.ex (ix2 i e)) (I.sm (ix2 i e)) * FloatOps.sitofp (F := Ideal) .f32 (BitVec.setWidth 32
        (IntOp.cmpi .eq (BitVec.ofNat 32 e.val) (IntOp.addi (Scalar.muli (mine c) 4#32) (BitVec.ofNat 32 j.val))))) 0)
      (∑ e : Fin 64, Scalar.select (IntOp.cmpi .eq (BitVec.ofNat 32 e.val) (I.lE0 (ix2 i 0))) (Ideal.div (I.ex (ix2 i e)) (I.sm (ix2 i e))) 0
        + ∑ e : Fin 64, Scalar.select (IntOp.cmpi .eq (BitVec.ofNat 32 e.val) (I.lE1 (ix2 i 0))) (Ideal.div (I.ex (ix2 i e)) (I.sm (ix2 i e))) 0) := by
    pointwise [Ins.gate, k0_pay4]
  have hp : ∀ e : Fin 64, Ideal.div (I.ex (ix2 i e)) (I.sm (ix2 i e)) = prob I.x I.rw i e := fun e => by rw [ex_at, sm_at]; rfl
  have hs : ∀ k : Fin 64, ∑ e : Fin 64, (if e.val = k.val then prob I.x I.rw i e else 0) = prob I.x I.rw i k := fun k => by
    rw [Finset.sum_eq_single k (fun e _ he => if_neg fun h => he (Fin.ext h)) (fun h => absurd (Finset.mem_univ _) h), if_pos rfl]
  have ht : ∀ k : Fin 64, ∑ e : Fin 64, prob I.x I.rw i e * (if e.val = k.val then 1 else 0) = prob I.x I.rw i k := fun k => by
    rw [← hs k]
    refine Finset.sum_congr rfl fun e _ => ?_
    split_ifs <;> simp
  rw [h, word_exn, lE0_at, lE1_at, R.at0, R.at1]
  simp only [hp, word_fin, or_bool, pick_bool, word_of, hs, ht]
  unfold Routed.share
  simp only [← Fin.ext_iff, eq_comm (a := R.e0 i), eq_comm (a := R.e1 i)]
  split_ifs with hc
  · rfl
  · exact zero_div' (R.both_pos i)

theorem hit_at (R : Routed I.x I.rw I.ix) (i : Fin 1024) : I.hitRow c (ix2 0 i) = if R.on c i then (1 : EReal) else 0 := by
  have h : I.hitRow c (ix2 0 i) = FloatOps.sitofp (F := Ideal) .f32 (BitVec.setWidth 32 (BitVec.ofBool (decide (0 < ∑ j : Fin 4, I.gate c (ix2 i j))))) := by
    pointwise [Ins.hitRow, Ins.hit, Ins.gate, k0_pay5, k0_pay6]
  rw [h, word_of]
  have hs : ∑ j : Fin 4, I.gate c (ix2 i j) = ∑ j : Fin 4, R.share i (exn c j) := Finset.sum_congr rfl fun j _ => I.gate_at c R i j
  rw [hs]
  exact if_congr (R.share_sum c i) rfl rfl

theorem rank_at (A : Fed I) (i : Fin 1024) : I.rank c (ix2 0 i) = ((place (A.R.on c) i : ℝ) : EReal) := by
  have h : I.rank c (ix2 0 i) = ∑ k : Fin 1024, I.hitRow c (ix2 0 k) * I.lTri (ix2 k i) := by
    pointwise [Ins.rank, Ins.hitRow, k0_pay7]
  rw [h]
  unfold place upto
  rw [← sum_count (Finset.univ : Finset (Fin 1024))]
  refine Finset.sum_congr rfl fun k _ => ?_
  rw [hit_at I c A.R, lTri_at, A.tri]
  by_cases h1 : A.R.on c k <;> by_cases h2 : k.val / 64 = i.val / 64 ∧ k.val ≤ i.val <;> simp [h1, h2]

/-- Whether token `k` has place `q + 1` of chunk `p`. -/
theorem chosen_at (A : Fed I) (p : Fin 16) (q : Fin 24) (k : Fin 1024) :
    k0_pay8 (I.hit c) I.lTri I.lSr I.lTm (ix2 (spot p q) k) = if at' (A.R.on c) p q k then (1 : EReal) else 0 := by
  have h : k0_pay8 (I.hit c) I.lTri I.lSr I.lTm (ix2 (spot p q) k) = Scalar.select (IntOp.andi
      (BitVec.ofBool (decide (I.rank c (ix2 0 k) = I.lSr (ix2 (spot p q) k))))
      (BitVec.ofBool (decide (Ideal.ofBits .f32 0x3F000000#32 < I.hitRow c (ix2 0 k))))) (I.lTm (ix2 (spot p q) k)) 0 := by
    pointwise [Ins.rank, Ins.hitRow, k0_pay8]
  have hq := q.isLt
  have e1 : (spot p q).val % 24 = q.val := by show (24 * p.val + q.val) % 24 = q.val; omega
  have e2 : (spot p q).val / 24 = p.val := by show (24 * p.val + q.val) / 24 = p.val; omega
  have h1 : (((place (A.R.on c) k : ℝ) : EReal) = (((q.val + 1 : ℕ) : ℝ) : EReal)) ↔ place (A.R.on c) k = q.val + 1 := by
    rw [EReal.coe_eq_coe_iff, Nat.cast_inj]
  have h2 : (Ideal.ofBits .f32 0x3F000000#32 < if A.R.on c k then (1 : EReal) else 0) ↔ A.R.on c k := by
    rw [half_lt]
    split_ifs with ho
    · exact iff_of_true (by exact_mod_cast (by norm_num : (1 / 2 : ℝ) < 1)) ho
    · exact iff_of_false (by rw [not_lt]; exact_mod_cast (by norm_num : (0 : ℝ) ≤ 1 / 2)) ho
  rw [h, and_bool, pick_bool, rank_at I c A, hit_at I c A.R, lSr_at, lTm_at, A.sr, A.tm, e1, e2]
  simp only [h1, h2]
  have h3 : at' (A.R.on c) p q k ↔ (place (A.R.on c) k = q.val + 1 ∧ A.R.on c k) ∧ p.val = k.val / 64 := by
    rw [eq_comm (a := p.val)]; exact Iff.rfl
  rw [if_congr h3 rfl rfl]
  by_cases h4 : place (A.R.on c) k = q.val + 1 ∧ A.R.on c k <;> simp [h4]

variable {c} in
/-- The token at a place, and its gates. -/
theorem picked_at (A : Fed I) {p : Fin 16} {q : Fin 24} {i : Fin 1024} (hi : A.R.on c i) (hc : i.val / 64 = p.val)
    (hq : place (A.R.on c) i = q.val + 1) (d : Fin 512) : I.picked c (ix2 (spot p q) d) = I.x (ix2 i d) := by
  have h : I.picked c (ix2 (spot p q) d) = ∑ k, k0_pay8 (I.hit c) I.lTri I.lSr I.lTm (ix2 (spot p q) k) * I.lX (ix2 k d) := by
    pointwise [Ins.picked, k0_pay9, k0_pay1]
  rw [h]
  simp only [chosen_at I c A, lX_at]
  exact sum_pick _ (fun k => I.x (ix2 k d)) i (at_iff hi hc hq)

variable {c} in
theorem pickedGate_at (A : Fed I) {p : Fin 16} {q : Fin 24} {i : Fin 1024} (hi : A.R.on c i) (hc : i.val / 64 = p.val)
    (hq : place (A.R.on c) i = q.val + 1) (j : Fin 4) : I.pickedGate c (ix2 (spot p q) j) = A.R.share i (exn c j) := by
  have h : I.pickedGate c (ix2 (spot p q) j) = ∑ k, k0_pay8 (I.hit c) I.lTri I.lSr I.lTm (ix2 (spot p q) k) * I.gate c (ix2 k j) := by
    pointwise [Ins.pickedGate, k0_pay10]
  rw [h]
  simp only [chosen_at I c A, gate_at I c A.R]
  exact sum_pick _ (fun k => A.R.share k (exn c j)) i (at_iff hi hc hq)

variable {c} in
/-- The row of results at a token's place: the token times its share of each of the device's experts, multiplied by their weights. -/
theorem part_at (A : Fed I) {p : Fin 16} {q : Fin 24} {i : Fin 1024} (hi : A.R.on c i) (hc : i.val / 64 = p.val)
    (hq : place (A.R.on c) i = q.val + 1) (h : Fin 1024) :
    I.part c (ix2 (spot p q) h) = ∑ j : Fin 4, ∑ d : Fin 512, I.x (ix2 i d) * A.R.share i (exn c j) * I.w (ix3 j d h) := by
  have h1 : I.part c (ix2 (spot p q) h) = I.firstTwo c (ix2 (spot p q) h)
      + ∑ d, I.picked c (ix2 (spot p q) d) * I.gate2 c (ix2 (spot p q) 0) * I.lW 2 (ix3 0 d h)
      + ∑ d, I.picked c (ix2 (spot p q) d) * I.pickedGate c (ix2 (spot p q) 3) * I.lW 3 (ix3 0 d h) := by
    pointwise [Ins.part, k0_pay13]
  have h2 : I.firstTwo c (ix2 (spot p q) h) = ∑ d, I.picked c (ix2 (spot p q) d) * I.pickedGate c (ix2 (spot p q) 0) * I.lW 0 (ix3 0 d h)
      + ∑ d, I.picked c (ix2 (spot p q) d) * I.pickedGate c (ix2 (spot p q) 1) * I.lW 1 (ix3 0 d h) := by
    pointwise [Ins.firstTwo, Ins.picked, Ins.pickedGate, k0_pay11]
  have h3 : I.gate2 c (ix2 (spot p q) 0) = I.pickedGate c (ix2 (spot p q) 2) := by
    pointwise [Ins.gate2, Ins.pickedGate, k0_pay12]
  rw [h1, h2, h3]
  simp only [picked_at I A hi hc hq, pickedGate_at I A hi hc hq, lW_at, Fin.sum_univ_four]

/-! ### What is packed -/

theorem slab_row (p : Fin 16) (q : Fin 24) (h : Fin 1024) :
    I.slabs c (ix3 p ⟨q.val, by omega⟩ h) = I.part c (ix2 (spot p q) h) := by
  have h' : ∀ (a : Fin 25) (hr r : FVec Ideal S1x1024 .f32) (y : FVec Ideal S384x1024 .f32) (ha : a.val = q.val),
      pack hr r y p (ix3 0 a h) = y (ix2 (spot p q) h) := by
    intro a hr r y ha
    have hq := q.isLt
    pointwise [pack, pack25]
    rw [dif_pos (by omega)]
    exact congrArg (fun k => y (ix2 k h)) (Fin.ext (by show 24 * p.val + a.val = 24 * p.val + q.val; omega))
  exact h' _ _ _ _ rfl

theorem slab_rank (p : Fin 16) (a : Fin 64) :
    I.slabs c (ix3 p 24 ⟨a.val, by omega⟩) = I.rank c (ix2 0 (tok p a)) := by
  have h' : ∀ (b : Fin 1024) (hb : b.val = a.val) (hr r : FVec Ideal S1x1024 .f32) (y : FVec Ideal S384x1024 .f32),
      pack hr r y p (ix3 0 24 b) = r (ix2 0 (tok p a)) := by
    intro b hb hr r y
    have ha := a.isLt
    pointwise [pack, pack25]
    rw [dif_pos (by omega)]
    exact congrArg (fun k => r (ix2 0 k)) (Fin.ext (by show 64 * p.val + b.val = 64 * p.val + a.val; omega))
  exact h' _ rfl _ _ _

theorem slab_hit (p : Fin 16) (a : Fin 64) :
    I.slabs c (ix3 p 24 ⟨64 + a.val, by omega⟩) = I.hitRow c (ix2 0 (tok p a)) := by
  have h' : ∀ (b : Fin 1024) (hb : b.val = 64 + a.val) (hr r : FVec Ideal S1x1024 .f32) (y : FVec Ideal S384x1024 .f32),
      pack hr r y p (ix3 0 24 b) = hr (ix2 0 (tok p a)) := by
    intro b hb hr r y
    have ha := a.isLt
    pointwise [pack, pack25]
    rw [dif_neg (by omega), dif_pos (by omega)]
    exact congrArg (fun k => hr (ix2 0 k)) (Fin.ext (by show 64 * p.val + (b.val - 64) = 64 * p.val + a.val; omega))
  exact h' _ rfl _ _ _

end Ins

end Cert.Moe

end
-- ==== Proof.OutVal.lean ====
/-
  A device's rows of the result, as values over the extended reals: each token's sum over all experts.
-/
module

public import proofs.«01_k».proof.Proof.Slab
public import proofs.«01_k».proof.Proof.Region

@[expose] public section

set_option maxRecDepth 16384

noncomputable section

namespace Cert.Moe

open Cert.KernelIdeal Cert.KernelIdeal.Facts₀ Cert.KernelIdeal.Facts
open Idealize.ShloMosaic Idealize.ShloMosaic.TcCoe
open Cert.KernelIdeal.Gen (k0_pay59 k0_pay63 k0_pay85)

/-! ### From the slabs received -/

section
variable (g : Slabs Ideal)

theorem rdRank_at (s : Fin 16) (a : Fin 64) : rdRank g s (ix3 0 0 a) = g (ix3 s 24 ⟨a.val, by omega⟩) := by
  refine congrArg g ?_
  funext b; apply Fin.ext; fin_cases b <;> simp [inM]
theorem rdHit_at (s : Fin 16) (a : Fin 64) : rdHit g s (ix3 0 0 a) = g (ix3 s 24 ⟨64 + a.val, by omega⟩) := by
  refine congrArg g ?_
  funext b; apply Fin.ext; fin_cases b <;> simp [inM]
theorem rdBlk_at (s : Fin 16) (q : Fin 24) (h : Fin 1024) : rdBlk g s (ix3 0 q h) = g (ix3 s ⟨q.val, by omega⟩ h) := by
  refine congrArg g ?_
  funext b; apply Fin.ext; fin_cases b <;> simp [inM]

theorem sel_at (s : Fin 16) (a : Fin 64) (q : Fin 24) : sel g s (ix2 a q)
    = if rdRank g s (ix3 0 0 a) - 1 = ((q.val : ℝ) : EReal) ∧ ((1 / 2 : ℝ) : EReal) < rdHit g s (ix3 0 0 a) then (1 : EReal) else 0 := by
  have h : sel g s (ix2 a q) = FloatOps.sitofp (F := Ideal) .f32 (BitVec.setWidth 32 (IntOp.andi
      (BitVec.ofBool (decide (rdRank g s (ix3 0 0 a) - 1 = FloatOps.sitofp (F := Ideal) .f32 (BitVec.ofNat 32 q.val))))
      (BitVec.ofBool (decide (Ideal.ofBits .f32 0x3F000000#32 < rdHit g s (ix3 0 0 a)))))) := by
    pointwise [sel, k0_pay63, k0_pay59]
  rw [h, and_bool, word_of, word_nat _ (by omega), half_lt]

theorem blk_at (s : Fin 16) (q : Fin 24) (h : Fin 1024) : blk g s (ix2 q h) = rdBlk g s (ix3 0 q h) := by
  pointwise [blk, k0_pay85]

theorem sels_at (s : Fin 16) (a : Fin 64) (q : Fin 24) : sels g (ix2 a (spot s q)) = sel g s (ix2 a q) := by
  have hq := q.isLt
  refine concatenate_ofFn_apply (t := S64x384) (s₁ := S64x24) 1 (fun s => sel g s) _ rfl 24 rfl _ s ?_ _ ?_ ?_
  · show (24 * s.val + q.val) / 24 = s.val; omega
  · show q.val = (24 * s.val + q.val) % 24; omega
  · intro b hb
    match b with
    | 0 => rfl
    | 1 => exact absurd rfl hb

theorem blks_at (s : Fin 16) (q : Fin 24) (h : Fin 1024) : blks g (ix2 (spot s q) h) = blk g s (ix2 q h) := by
  have hq := q.isLt
  refine concatenate_ofFn_apply (t := S384x1024) (s₁ := S24x1024) 0 (fun s => blk g s) _ rfl 24 rfl _ s ?_ _ ?_ ?_
  · show (24 * s.val + q.val) / 24 = s.val; omega
  · show q.val = (24 * s.val + q.val) % 24; omega
  · intro b hb
    match b with
    | 0 => exact absurd rfl hb
    | 1 => rfl

theorem outOf_at (a : Fin 64) (h : Fin 1024) : outOf g (ix2 a h)
    = ∑ s : Fin 16, ∑ q : Fin 24, sel g s (ix2 a q) * blk g s (ix2 q h) := by
  have h' : outOf g (ix2 a h) = ∑ k : Fin 384, sels g (ix2 a k) * blks g (ix2 k h) := by
    pointwise [outOf]
  rw [h']
  refine (sum_blocks (A := 16) (B := 24) (by decide) (fun k : Fin 384 => sels g (ix2 a k) * blks g (ix2 k h))).symm.trans ?_
  refine Finset.sum_congr rfl fun s _ => Finset.sum_congr rfl fun q _ => ?_
  exact congrArg₂ (· * ·) (sels_at g s a q) (blks_at g s q h)

end

/-! ### The result -/

/-- The same arguments with other expert weights. -/
def Ins.withW (I : Ins Ideal) (w : Vec Ideal S4x512x1024 .bf16) : Ins Ideal := { I with w := w }

/-- Routed tokens stay so. -/
def Fed.withW {I : Ins Ideal} (A : Fed I) (w : Vec Ideal S4x512x1024 .bf16) : Fed (I.withW w) := ⟨A.R, A.tri, A.tm, A.sr⟩

variable {I : Ins Ideal} (A : Fed I) (w : Fin 16 → Vec Ideal S4x512x1024 .bf16)

/-- What sender `s` adds to a token's result. -/
theorem from_at (d : Dev nD) (s : Fin 16) (a : Fin 64) (h : Fin 1024) :
    ∑ q : Fin 24, sel (got (fun c => (I.withW (w c)).slabs c) d) s (ix2 a q) * blk (got (fun c => (I.withW (w c)).slabs c) d) s (ix2 q h)
      = ∑ j : Fin 4, ∑ k : Fin 512, I.x (ix2 (tok d a) k) * A.R.share (tok d a) (exn s j) * w s (ix3 j k h) := by
  set g := got (fun c => (I.withW (w c)).slabs c) d with hg
  have h1 : rdRank g s (ix3 0 0 a) = ((place (A.R.on s) (tok d a) : ℝ) : EReal) := by
    rw [rdRank_at]
    exact ((I.withW (w s)).slab_rank s d a).trans ((I.withW (w s)).rank_at s (A.withW (w s)) (tok d a))
  have h2 : rdHit g s (ix3 0 0 a) = if A.R.on s (tok d a) then (1 : EReal) else 0 := by
    rw [rdHit_at]
    exact ((I.withW (w s)).slab_hit s d a).trans ((I.withW (w s)).hit_at s A.R (tok d a))
  have h3 : ∀ q : Fin 24, blk g s (ix2 q h) = (I.withW (w s)).part s (ix2 (spot d q) h) := fun q => by
    rw [blk_at, rdBlk_at]
    exact (I.withW (w s)).slab_row s d q h
  simp only [sel_at, h1, h2, h3]
  have hc : (tok d a).val / 64 = d.val := by
    have := a.isLt
    show (64 * d.val + a.val) / 64 = d.val; omega
  by_cases ho : A.R.on s (tok d a)
  · obtain ⟨q, hq⟩ : ∃ q : Fin 24, place (A.R.on s) (tok d a) = q.val + 1 := by
      have h4 := place_pos ho
      have h5 := A.R.place_le s (tok d a)
      exact ⟨⟨place (A.R.on s) (tok d a) - 1, by omega⟩, by show _ = _ - 1 + 1; omega⟩
    rw [sum_pick _ _ q fun k => ?_]
    · exact (I.withW (w s)).part_at (A.withW (w s)) ho hc hq h
    · rw [if_pos ho, hq]
      have h6 : (((q.val + 1 : ℕ) : ℝ) : EReal) - 1 = ((q.val : ℝ) : EReal) := by
        rw [← EReal.coe_one, ← EReal.coe_sub]; exact congrArg (fun r : ℝ => (r : EReal)) (by push_cast; ring)
      rw [h6, EReal.coe_eq_coe_iff, Nat.cast_inj]
      constructor
      · exact fun h => (Fin.ext h.1).symm
      · rintro rfl
        exact ⟨rfl, by exact_mod_cast (by norm_num : (1 / 2 : ℝ) < 1)⟩
  · rw [sum_none _ _ fun q hq => ?_]
    · refine (Finset.sum_eq_zero fun j _ => Finset.sum_eq_zero fun k _ => ?_).symm
      rw [A.R.share_off s _ ho, mul_zero, zero_mul]
    · rw [if_neg ho] at hq
      exact absurd hq.2 (by rw [not_lt]; exact_mod_cast (by norm_num : (0 : ℝ) ≤ 1 / 2))

/-- A token's result is the sum of its two experts' products, each times the expert's share. -/
theorem out_at (W : Fin 64 → Fin 512 → Fin 1024 → EReal) (hW : ∀ s j k h, w s (ix3 j k h) = W (exn s j) k h) (d : Dev nD) (a : Fin 64) (h : Fin 1024) :
    outOf (got (fun c => (I.withW (w c)).slabs c) d) (ix2 a h) = mixed A.R W (tok d a) h := by
  rw [outOf_at, ← mixed_eq]
  refine Eq.trans ?_ (sum_blocks (A := 16) (B := 4) (by decide)
    (fun e : Fin 64 => ∑ k : Fin 512, I.x (ix2 (tok d a) k) * A.R.share (tok d a) e * W e k h))
  refine Finset.sum_congr rfl fun s _ => ?_
  rw [from_at A w d s a h]
  refine Finset.sum_congr rfl fun j _ => Finset.sum_congr rfl fun k _ => ?_
  rw [hW]; rfl

end Cert.Moe

end
-- ==== Proof.HostVal.lean ====
/-
  What the host hands the region, as values over the extended reals: the arguments as launched, the three masks, and the experts' weights.
-/
module

public import proofs.«01_k».proof.Proof.OutVal
public import Idealize.ShloMosaic.Lib.StableHlo.Run
public import Idealize.ShloMosaic.Lib.Routing.Words
public import Idealize.ShloMosaic.Lib.Pointwise
public import Idealize.ShloMosaic.Lib.Tactic.CleanTypes

@[expose] public section

set_option maxRecDepth 16384

noncomputable section

namespace Cert.Moe

open Cert.KernelIdeal Cert.KernelIdeal.Facts₀ Cert.KernelIdeal.Facts
open Idealize.ShloMosaic Idealize.ShloMosaic.TcCoe

variable (m : (ℓ : Loc nD τ sig) → Buf (Elt Ideal) ℓ) (c : Dev nD)

/-- A token's chunk. -/
def gChunk : IVec S1024 32 := Host.divsi (iotaInDim S1024 32 0) (broadcastInDim S1024 ![] bcast_S_S1024 (constantI S_ 32 64#32))
/-- Tokens of one chunk, the first not after the second. -/
def gTri : FVec Ideal S1024x1024 .bf16 := uitofp .bf16 (andi
  (cmpi .eq (broadcastInDim S1024x1024 ![0, 1] bcast_S1024x1_S1024x1024_0_1 (broadcastInDim S1024x1 ![0] bcast_S1024_S1024x1_0 gChunk))
    (broadcastInDim S1024x1024 ![0, 1] bcast_S1x1024_S1024x1024_0_1 (broadcastInDim S1x1024 ![1] bcast_S1024_S1x1024_1 gChunk)))
  (cmpi .sle (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0)))))

theorem V_tri : Gen.V m c main_v15 = gTri := by
  unfold Gen.V
  after_results_simp
  all_goals rfl

/-- The chunk of a place. -/
def gSpot : IVec S384 32 := Host.divsi (iotaInDim S384 32 0) (broadcastInDim S384 ![] bcast_S_S384 (constantI S_ 32 24#32))
/-- Places and tokens of one chunk. -/
def gTm : FVec Ideal S384x1024 .bf16 := uitofp .bf16
  (cmpi .eq (broadcastInDim S384x1024 ![0, 1] bcast_S384x1_S384x1024_0_1 (broadcastInDim S384x1 ![0] bcast_S384_S384x1_0 gSpot))
    (broadcastInDim S384x1024 ![0, 1] bcast_S1x1024_S384x1024_0_1 (broadcastInDim S1x1024 ![1] bcast_S1024_S1x1024_1 gChunk)))
/-- The number of a place within its chunk, from one. -/
def gSr : FVec Ideal S384x1024 .f32 := broadcastInDim S384x1024 ![0, 1] bcast_S384x1_S384x1024_0_1 (broadcastInDim S384x1 ![0] bcast_S384_S384x1_0
  (sitofp .f32 (addi (Host.remsi (iotaInDim S384 32 0) (broadcastInDim S384 ![] bcast_S_S384 (constantI S_ 32 24#32)))
    (broadcastInDim S384 ![] bcast_S_S384 (constantI S_ 32 1#32)))))

theorem V_tm : Gen.V m c main_v24 = gTm := by
  unfold Gen.V
  after_results_simp
  all_goals rfl

theorem V_sr : Gen.V m c main_v30 = gSr := by
  unfold Gen.V
  after_results_simp
  all_goals rfl

theorem V_w : Gen.V m c main_v31 = (m ((c : Thread nD τ).loc main_arg3) : S4x512x1024.Idx → EReal) := by
  unfold Gen.V
  after_results_simp
  all_goals rfl

theorem gChunk_at (i : Fin 1024) : gChunk (ix1 i) = BitVec.ofNat 32 (i.val / 64) := by
  refine Eq.trans ?_ (Routing.divsi_word .host (a := i.val) (b := 64) (by omega) (by omega) (by omega))
  pointwise [gChunk]

theorem gSpot_at (i : Fin 384) : gSpot (ix1 i) = BitVec.ofNat 32 (i.val / 24) := by
  refine Eq.trans ?_ (Routing.divsi_word .host (a := i.val) (b := 24) (by omega) (by omega) (by omega))
  pointwise [gSpot]

/-- A truth value as a float is one or zero. -/
theorem bit_of (p : Prop) [Decidable p] : FloatOps.uitofp (F := Ideal) .bf16 (BitVec.ofBool (decide p)) = if p then (1 : EReal) else 0 := by
  show (((BitVec.ofBool (decide p)).toNat : ℝ) : EReal) = _
  by_cases h : p <;> simp [h]

theorem gTri_at (a b : Fin 1024) : gTri (ix2 a b) = if a.val / 64 = b.val / 64 ∧ a.val ≤ b.val then (1 : EReal) else 0 := by
  have h : gTri (ix2 a b) = FloatOps.uitofp (F := Ideal) .bf16 (IntOp.andi (IntOp.cmpi .eq (gChunk (ix1 a)) (gChunk (ix1 b)))
      (IntOp.cmpi .sle (BitVec.ofNat 32 a.val) (BitVec.ofNat 32 b.val))) := by
    pointwise [gTri]
  rw [h, gChunk_at, gChunk_at, word_eq (by omega) (by omega), word_le (by omega) (by omega), and_bool, bit_of]

theorem gTm_at (a : Fin 384) (b : Fin 1024) : gTm (ix2 a b) = if a.val / 24 = b.val / 64 then (1 : EReal) else 0 := by
  have h : gTm (ix2 a b) = FloatOps.uitofp (F := Ideal) .bf16 (IntOp.cmpi .eq (gSpot (ix1 a)) (gChunk (ix1 b))) := by
    pointwise [gTm]
  rw [h, gSpot_at, gChunk_at, word_eq (by omega) (by omega), bit_of]

theorem gSr_at (a : Fin 384) (b : Fin 1024) : gSr (ix2 a b) = (((a.val % 24 + 1 : ℕ) : ℝ) : EReal) := by
  have h : gSr (ix2 a b) = FloatOps.sitofp (F := Ideal) .f32 (IntOp.addi (IntOp.remsi .host (BitVec.ofNat 32 a.val) (BitVec.ofNat 32 24)) (BitVec.ofNat 32 1)) := by
    pointwise [gSr]
  have h1 : IntOp.addi (BitVec.ofNat 32 (a.val % 24)) (BitVec.ofNat 32 1) = BitVec.ofNat 32 (a.val % 24 + 1) := (BitVec.ofNat_add _ _).symm
  rw [h, Routing.remsi_word .host (by omega) (by omega) (by omega), h1, word_nat _ (by omega)]

/-! ### The devices' arguments -/

/-- Routed tokens the same on every device are what the region is given. -/
def fed {x : S1024x512.Idx → EReal} {rw : S512x64.Idx → EReal} {ix : S1024x2.Idx → BitVec 32} (R : Routed x rw ix) (w : Vec Ideal S4x512x1024 .bf16) :
    Fed ⟨x, rw, ix, w, gTri, gTm, gSr⟩ := ⟨R, gTri_at, gTm_at, gSr_at⟩

/-- Device `d`'s rows of the result, where every device has the same tokens and its block of the experts' weights. -/
theorem result_at {x : S1024x512.Idx → EReal} {rw : S512x64.Idx → EReal} {ix : S1024x2.Idx → BitVec 32} (R : Routed x rw ix)
    (W : Fin 64 → Fin 512 → Fin 1024 → EReal)
    (h0 : ∀ c : Dev nD, m ((c : Thread nD τ).loc main_arg0) = x) (h1 : ∀ c : Dev nD, m ((c : Thread nD τ).loc main_arg1) = rw)
    (h2 : ∀ c : Dev nD, m ((c : Thread nD τ).loc main_arg2) = ix)
    (h3 : ∀ (c : Dev nD) j k h, (m ((c : Thread nD τ).loc main_arg3) : S4x512x1024.Idx → EReal) (ix3 j k h) = W (exn c j) k h)
    (d : Dev nD) (a : Fin 64) (h : Fin 1024) : result m d (ix2 a h) = mixed R W (tok d a) h := by
  have hi : ∀ c : Dev nD, ins m c = (⟨x, rw, ix, (m ((c : Thread nD τ).loc main_arg3) : S4x512x1024.Idx → EReal), gTri, gTm, gSr⟩ : Ins Ideal) := fun c => by
    unfold ins
    rw [Gen.V_main_arg0, Gen.V_main_arg1, Gen.V_main_arg2, V_w, V_tri, V_tm, V_sr, h0, h1, h2]
  have hs : sb m = fun c : Dev nD => (Ins.slabs ⟨x, rw, ix, (m ((c : Thread nD τ).loc main_arg3) : S4x512x1024.Idx → EReal), gTri, gTm, gSr⟩ c) :=
    funext fun c => by unfold sb; rw [hi]
  unfold result
  rw [hs]
  exact out_at (fed R (fun _ => 0)) (fun c => m ((c : Thread nD τ).loc main_arg3)) W h3 d a h

end Cert.Moe

end
-- ==== Proof.PreVal.lean ====
/-
  The precondition read: where it holds, the tokens and the router's weights are real and the tokens are routed.
-/
module

public import proofs.«01_k».proof.Defs
public import proofs.«01_k».proof.Proof.Slab
public import Idealize.ShloMosaic.Lib.ReduceAll
public import Idealize.ShloMosaic.Lib.Decide
public import Idealize.ShloMosaic.Lib.Pointwise
public import Idealize.ShloMosaic.Lib.Tactic.CleanTypes

@[expose] public section

set_option maxRecDepth 16384

noncomputable section

namespace Cert.Moe

open Idealize.ShloMosaic Idealize.ShloMosaic.TcCoe

/-- The shapes of the precondition's operations match. -/
theorem preFacts : Cert.Pre_routed_KernelIdeal.Facts := by
  constructor <;> decide

/-- The same at the reference's arguments. -/
theorem preFacts' : Cert.Pre_routed_ReferenceIdeal.Facts := by
  constructor <;> decide

section
open Cert.Pre_routed_KernelIdeal Cert.Pre_routed_KernelIdeal.Facts
variable [Cert.Pre_routed_KernelIdeal.Facts]

/-! ### The parts of the precondition -/

/-- The first expert of each device. -/
def pLo : IVec S1024x16 32 := muli (iotaInDim S1024x16 32 1) (broadcastInDim S1024x16 ![] bcast_S_S1024x16 (constantI S_ 32 4#32))
/-- Whether a token's expert is one of a device's. -/
def pIn (v : IVec S1024x1 32) : IVec S1024x16 1 := andi (cmpi .sle pLo (broadcastInDim S1024x16 ![0, 1] bcast_S1024x1_S1024x16_0_1 v))
  (cmpi .slt (broadcastInDim S1024x16 ![0, 1] bcast_S1024x1_S1024x16_0_1 v)
    (addi pLo (broadcastInDim S1024x16 ![] bcast_S_S1024x16 (constantI S_ 32 4#32))))
/-- The two columns of expert numbers. -/
def pCol0 (ix : IVec S1024x2 32) : IVec S1024x1 32 := extractStridedSlice S1024x1 ![0, 0] ix slices_S1024x2_S1024x1_0_0
def pCol1 (ix : IVec S1024x2 32) : IVec S1024x1 32 := extractStridedSlice S1024x1 ![0, 1] ix slices_S1024x2_S1024x1_0_1
/-- Whether a token has one of a device's experts, token by token of each chunk. -/
def pHit (ix : IVec S1024x2 32) : IVec S16x64x16 32 :=
  shapeCast S16x64x16 (extui 32 (ori (pIn (pCol0 ix)) (pIn (pCol1 ix))) natLt_1_32) shapeCasts_S1024x16_S16x64x16
/-- How many of a chunk's tokens have one of a device's experts. -/
def pLoad (ix : IVec S1024x2 32) : IVec S16x16 32 := Host.reduce IntOp.addi (pHit ix) (constantI S_ 32 0#32) reducesTo_S16x64x16_S16x16_d1 h_S_

theorem and_one {a b : BitVec 1} (h : IntOp.andi a b = 1#1) : a = 1#1 ∧ b = 1#1 := by
  revert a b; decide

theorem bit_one {p : Prop} [Decidable p] (h : BitVec.ofBool (decide p) = 1#1) : p := by
  by_contra hp
  simp [hp] at h

/-- Counting ones in words. -/
theorem fold_count {ι : Type} (S : Finset ι) (P : ι → Prop) [DecidablePred P] :
    Finset.fold IntOp.addi (0#32) (fun a => BitVec.setWidth 32 (BitVec.ofBool (decide (P a)))) S = BitVec.ofNat 32 (S.filter P).card := by
  classical
  induction S using Finset.induction_on with
  | empty => rfl
  | insert a S ha ih =>
    rw [Finset.fold_insert ha, ih, Finset.filter_insert]
    by_cases h : P a
    · rw [if_pos h, Finset.card_insert_of_notMem (fun h' => ha (Finset.mem_filter.mp h').1), Nat.add_comm, BitVec.ofNat_add]
      simp only [h, decide_true]
      rfl
    · rw [if_neg h]
      simp only [h, decide_false]
      exact BitVec.zero_add _

/-- A word between zero and sixty-three names one of sixty-four. -/
theorem small_word {v : BitVec 32} (h0 : IntOp.cmpi .sge v 0#32 = 1#1) (h1 : IntOp.cmpi .slt v 64#32 = 1#1) :
    v.toNat < 64 ∧ v = BitVec.ofNat 32 v.toNat := by
  have h0' : 0 ≤ v.toInt := IntOp.cmpi_sge.1 h0
  have h1' : v.toInt < 64 := IntOp.cmpi_slt.1 h1
  refine ⟨?_, (BitVec.ofNat_toNat 32 v).symm ▸ by simp⟩
  rw [BitVec.toInt_eq_toNat_cond] at h0' h1'
  split_ifs at h0' h1' <;> omega

theorem pIn_at (v : IVec S1024x1 32) (i : Fin 1024) (s : Fin 16) (e : ℕ) (he : e < 64) (h : v (ix2 i 0) = BitVec.ofNat 32 e) :
    pIn v (ix2 i s) = BitVec.ofBool (decide (e / 4 = s.val)) := by
  have h1 : pIn v (ix2 i s) = IntOp.andi (IntOp.cmpi .sle (IntOp.muli (BitVec.ofNat 32 s.val) (BitVec.ofNat 32 4)) (v (ix2 i 0)))
      (IntOp.cmpi .slt (v (ix2 i 0)) (IntOp.addi (IntOp.muli (BitVec.ofNat 32 s.val) (BitVec.ofNat 32 4)) (BitVec.ofNat 32 4))) := by
    pointwise [pIn, pLo]
  have h2 : IntOp.muli (BitVec.ofNat 32 s.val) (BitVec.ofNat 32 4) = BitVec.ofNat 32 (s.val * 4) := (BitVec.ofNat_mul _ _).symm
  have h3 : IntOp.addi (BitVec.ofNat 32 (s.val * 4)) (BitVec.ofNat 32 4) = BitVec.ofNat 32 (s.val * 4 + 4) := (BitVec.ofNat_add _ _).symm
  rw [h1, h, h2, h3, word_le (by omega) (by omega), word_lt (by omega) (by omega), and_bool]
  exact congrArg _ (decide_eq_decide.mpr (by omega))

theorem pHit_at (ix : IVec S1024x2 32) (c : Fin 16) (a : Fin 64) (s : Fin 16) (e f : ℕ) (he : e < 64) (hf : f < 64)
    (h0 : ix (ix2 (tok c a) 0) = BitVec.ofNat 32 e) (h1 : ix (ix2 (tok c a) 1) = BitVec.ofNat 32 f) :
    pHit ix (ix3 c a s) = BitVec.setWidth 32 (BitVec.ofBool (decide (e / 4 = s.val ∨ f / 4 = s.val))) := by
  have h : pHit ix (ix3 c a s) = BitVec.setWidth 32 (IntOp.ori (pIn (pCol0 ix) (ix2 (tok c a) s)) (pIn (pCol1 ix) (ix2 (tok c a) s))) := by
    have ht : (⟨c.val * 64 + a.val, by omega⟩ : Fin 1024) = tok c a := Fin.ext (by show c.val * 64 + a.val = 64 * c.val + a.val; omega)
    pointwise [pHit]
    rw [ht]
  have h0' : pCol0 ix (ix2 (tok c a) 0) = BitVec.ofNat 32 e := by
    rw [← h0]
    pointwise [pCol0]
  have h1' : pCol1 ix (ix2 (tok c a) 0) = BitVec.ofNat 32 f := by
    rw [← h1]
    pointwise [pCol1]
  rw [h, pIn_at _ _ _ e he h0', pIn_at _ _ _ f hf h1', or_bool]

/-- An element whose magnitude is below infinity is real. -/
theorem real_of {a : EReal} (h : FloatOps.cmpf (F := Ideal) (φ := .f32) .olt (FloatOps.absf (F := Ideal) (φ := .f32) a) (Ideal.ofBits .f32 0x7F800000#32) = 1#1) : ∃ r : ℝ, a = (r : EReal) := by
  have ht : Ideal.ofBits .f32 0x7F800000#32 = ⊤ := by simp [Ideal.ofBits, Ideal.ieee]
  rw [ht] at h
  have h' : max a (-a) < ⊤ := bit_one h
  rw [max_lt_iff] at h'
  refine ⟨a.toReal, (EReal.coe_toReal h'.1.ne fun hb => ?_).symm⟩
  rw [hb] at h'
  simp at h'

/-- Where the precondition holds, the tokens are routed. -/
theorem routed_of {x : FVec Ideal S1024x512 .f32} {rw : FVec Ideal S512x64 .f32} {ix : IVec S1024x2 32} {w : FVec Ideal S4x512x1024 .f32}
    (h : fn (F := Ideal) x rw ix w = fun _ => 1#1) : Nonempty (Routed x rw ix) := by
  have h' : IntOp.andi (IntOp.andi (IntOp.andi (IntOp.andi
      (Host.reduce IntOp.andi (cmpf .olt (Host.absf x) (broadcastInDim S1024x512 ![] bcast_S_S1024x512 (constant (F := Ideal) S_ .f32 0x7F800000#32)))
        (constantI S_ 1 1#1) reducesTo_S1024x512_S_d0_1 h_S_ ix0)
      (Host.reduce IntOp.andi (cmpf .olt (Host.absf rw) (broadcastInDim S512x64 ![] bcast_S_S512x64 (constant (F := Ideal) S_ .f32 0x7F800000#32)))
        (constantI S_ 1 1#1) reducesTo_S512x64_S_d0_1 h_S_ ix0))
      (Host.reduce IntOp.andi (andi (cmpi .sge ix (broadcastInDim S1024x2 ![] bcast_S_S1024x2 (constantI S_ 32 0#32)))
        (cmpi .slt ix (broadcastInDim S1024x2 ![] bcast_S_S1024x2 (constantI S_ 32 64#32)))) (constantI S_ 1 1#1) reducesTo_S1024x2_S_d0_1 h_S_ ix0))
      (Host.reduce IntOp.andi (cmpi .ne (pCol0 ix) (pCol1 ix)) (constantI S_ 1 1#1) reducesTo_S1024x1_S_d0_1 h_S_ ix0))
      (Host.reduce IntOp.andi (cmpi .sle (pLoad ix) (broadcastInDim S16x16 ![] bcast_S_S16x16 (constantI S_ 32 24#32))) (constantI S_ 1 1#1)
        reducesTo_S16x16_S_d0_1 h_S_ ix0) = 1#1 := congrFun h ix0
  obtain ⟨h4, hL⟩ := and_one h'
  obtain ⟨h3, hN⟩ := and_one h4
  obtain ⟨h2, hI⟩ := and_one h3
  obtain ⟨hX, hW⟩ := and_one h2
  haveI : Subsingleton (Shape.Idx S_) := ⟨fun a b => funext fun k => k.elim0⟩
  have hx : ∀ i, ∃ r : ℝ, x i = (r : EReal) := fun i => real_of (Host.reduce_andi_all _ _ _ _ _ hX i)
  have hw : ∀ i, ∃ r : ℝ, rw i = (r : EReal) := fun i => real_of (Host.reduce_andi_all _ _ _ _ _ hW i)
  have hi : ∀ i, (ix i).toNat < 64 ∧ ix i = BitVec.ofNat 32 (ix i).toNat := fun i =>
    have := and_one (Host.reduce_andi_all _ _ _ _ _ hI i)
    small_word this.1 this.2
  have hn : ∀ i : Fin 1024, ix (ix2 i 0) ≠ ix (ix2 i 1) := fun i => by
    have h5 : IntOp.cmpi .ne (pCol0 ix (ix2 i 0)) (pCol1 ix (ix2 i 0)) = 1#1 := Host.reduce_andi_all _ _ _ _ _ hN (ix2 i 0)
    have h6 : IntOp.cmpi .ne (ix (ix2 i 0)) (ix (ix2 i 1)) = 1#1 := by
      rw [← h5]
      pointwise [pCol0, pCol1]
    exact IntOp.cmpi_ne.1 h6
  have hl : ∀ c s : Fin 16, (Finset.univ.filter fun a : Fin 64 => (ix (ix2 (tok c a) 0)).toNat / 4 = s.val ∨ (ix (ix2 (tok c a) 1)).toNat / 4 = s.val).card ≤ 24 := by
    intro c s
    have h5 : IntOp.cmpi .sle (pLoad ix (ix2 c s)) (BitVec.ofNat 32 24) = 1#1 := Host.reduce_andi_all _ _ _ _ _ hL (ix2 c s)
    have h6 : pLoad ix (ix2 c s) = Finset.fold IntOp.addi (0#32) (fun a => pHit ix (ix3 c a s)) Finset.univ := by
      pointwise [pLoad]
    rw [h6, Finset.fold_congr (g := fun a : Fin 64 => BitVec.setWidth 32 (BitVec.ofBool (decide
      ((ix (ix2 (tok c a) 0)).toNat / 4 = s.val ∨ (ix (ix2 (tok c a) 1)).toNat / 4 = s.val)))) (fun a _ =>
        pHit_at ix c a s _ _ (hi _).1 (hi _).1 (hi _).2 (hi _).2), fold_count, word_le ?_ (by omega)] at h5
    · exact bit_one h5
    · exact lt_of_le_of_lt (Finset.card_le_univ _) (by simp)
  exact ⟨{ e0 := fun i => ⟨(ix (ix2 i 0)).toNat, (hi _).1⟩
           e1 := fun i => ⟨(ix (ix2 i 1)).toNat, (hi _).1⟩
           at0 := fun i => (hi _).2
           at1 := fun i => (hi _).2
           ne := fun i he => hn i (BitVec.eq_of_toNat_eq (Fin.mk.inj he))
           x_real := hx
           rw_real := hw
           load := hl }⟩

end

end Cert.Moe

end
-- ==== Proof.RefVal.lean ====
/-
  The reference's result, as a value over the extended reals: each token's two experts' products, each times the expert's share.
-/
module

public import proofs.«01_k».proof.Proof.Score
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Moe

open Cert.ReferenceIdeal Cert.ReferenceIdeal.Gen Cert.ReferenceIdeal.Value
open Idealize.ShloMosaic Idealize.ShloMosaic.TcCoe

/-! ### Two gathers read at an index -/

/-- One element per row of start indices: the one at its row and column, each read signed and clamped into its range. -/
theorem gather_pair {α : Type} (x : S1024x64.Idx → α) (idx : IVec S1024x2 32) (i : Fin 1024) :
    Host.gather gather_S1024x64_S1024x2_S1024_n_01_n_n_01_1_11 x idx (ix1 i)
      = x (ix2 ⟨min (idx (ix2 i 0)).toInt.toNat 1023, by omega⟩ ⟨min (idx (ix2 i 1)).toInt.toNat 63, by omega⟩) := by
  unfold Host.gather
  congr 1
  funext a
  refine Fin.ext ?_
  show gather_S1024x64_S1024x2_S1024_n_01_n_n_01_1_11.start (ix1 i) idx a + gather_S1024x64_S1024x2_S1024_n_01_n_n_01_1_11.batchCoord (ix1 i) a
    + gather_S1024x64_S1024x2_S1024_n_01_n_n_01_1_11.offCoord (ix1 i) a = _
  rw [GatherDims.batchCoord_eq_zero _ _ _ List.not_mem_nil,
    GatherDims.offCoord_eq_zero _ _ _ (fun h => ((GatherDims.mem_sKept _ _).mp h).1 (by revert a; decide))]
  simp only [Nat.add_zero]
  unfold GatherDims.start
  rw [dif_pos (show a ∈ gather_S1024x64_S1024x2_S1024_n_01_n_n_01_1_11.startIndexMap by revert a; decide)]
  match a with
  | 0 =>
    refine congrArg (fun k => min (idx k).toInt.toNat 1023) ?_
    funext b; refine Fin.ext ?_
    match b with
    | 0 => rfl
    | 1 => rfl
  | 1 =>
    refine congrArg (fun k => min (idx k).toInt.toNat 63) ?_
    funext b; refine Fin.ext ?_
    match b with
    | 0 => rfl
    | 1 => rfl

/-- One matrix per start index: the one it names, read signed and clamped into the range. -/
theorem gather_expert {α : Type} (x : S64x512x1024.Idx → α) (idx : IVec S1024x1 32) (i : Fin 1024) (d : Fin 512) (h : Fin 1024) :
    Host.gather gather_S64x512x1024_S1024x1_S1024x512x1024_12_0_n_n_0_1_15121024 x idx (ix3 i d h)
      = x (ix3 ⟨min (idx (ix2 i 0)).toInt.toNat 63, by omega⟩ d h) := by
  unfold Host.gather
  congr 1
  funext a
  refine Fin.ext ?_
  show gather_S64x512x1024_S1024x1_S1024x512x1024_12_0_n_n_0_1_15121024.start (ix3 i d h) idx a
    + gather_S64x512x1024_S1024x1_S1024x512x1024_12_0_n_n_0_1_15121024.batchCoord (ix3 i d h) a
    + gather_S64x512x1024_S1024x1_S1024x512x1024_12_0_n_n_0_1_15121024.offCoord (ix3 i d h) a = _
  rw [GatherDims.batchCoord_eq_zero _ _ _ List.not_mem_nil]
  match a with
  | 0 =>
    rw [GatherDims.offCoord_eq_zero _ _ _ (fun h => ((GatherDims.mem_sKept _ _).mp h).1 (by decide))]
    simp only [Nat.add_zero]
    unfold GatherDims.start
    rw [dif_pos (by decide)]
    refine congrArg (fun k => min (idx k).toInt.toNat 63) ?_
    funext b; refine Fin.ext ?_
    match b with
    | 0 => rfl
    | 1 => rfl
  | 1 =>
    unfold GatherDims.start
    rw [dif_neg (by decide), Nat.zero_add]
    rfl
  | 2 =>
    unfold GatherDims.start
    rw [dif_neg (by decide), Nat.zero_add]
    rfl

/-! ### The parts of the reference -/

section
variable (x : FVec Ideal S1024x512 .f32) (rw : FVec Ideal S512x64 .f32) (ix : IVec S1024x2 32)

/-- The scores. -/
def hScore : FVec Ideal S1024x64 .f32 := Host.dotGeneral dot_S1024x512_S512x64_S1024x64_1_0_0_1_n_n none x rw
/-- Their exponentials below the token's largest. -/
def hExp : FVec Ideal S1024x64 .f32 := Host.exp (subf (hScore x rw) (broadcastInDim S1024x64 ![0, 1] bcast_S1024x1_S1024x64_0_1
  (broadcastInDim S1024x1 ![0] bcast_S1024_S1024x1_0
    (Host.reduce FloatOps.maximumf (hScore x rw) (constant S_ .f32 0xFF800000#32) reducesTo_S1024x64_S1024_d1 h_S_))))
/-- The probabilities. -/
def hProb : FVec Ideal S1024x64 .f32 := Host.divf (hExp x rw) (broadcastInDim S1024x64 ![0, 1] bcast_S1024x1_S1024x64_0_1
  (broadcastInDim S1024x1 ![0] bcast_S1024_S1024x1_0
    (Host.reduceAdd (hExp x rw) (constant S_ .f32 0x00000000#32) reducesTo_S1024x64_S1024_d1 h_S_)))
/-- The token's own number, a negative one counted from the end. -/
def hTok : IVec S1024 32 := select (cmpi .slt (iotaInDim S1024 32 0) (broadcastInDim S1024 ![] bcast_S_S1024 (constantI S_ 32 0#32)))
  (addi (iotaInDim S1024 32 0) (broadcastInDim S1024 ![] bcast_S_S1024 (constantI S_ 32 1024#32))) (iotaInDim S1024 32 0)
/-- A number of an expert, a negative one counted from the end. -/
def hWrap (v : IVec S1024 32) : IVec S1024 32 := select (cmpi .slt v (broadcastInDim S1024 ![] bcast_S_S1024 (constantI S_ 32 0#32)))
  (addi v (broadcastInDim S1024 ![] bcast_S_S1024 (constantI S_ 32 64#32))) v
/-- The two experts' numbers. -/
def hE0 : IVec S1024 32 := hWrap (shapeCast S1024 (extractStridedSlice S1024x1 ![0, 0] ix slices_S1024x2_S1024x1_0_0) shapeCasts_S1024x1_S1024)
def hE1 : IVec S1024 32 := hWrap (shapeCast S1024 (extractStridedSlice S1024x1 ![0, 1] ix slices_S1024x2_S1024x1_0_1) shapeCasts_S1024x1_S1024)
/-- Tokens beside their experts. -/
def hPair (e : IVec S1024 32) : IVec S1024x2 32 := concatenate S1024x2 1
  [⟨S1024x1, broadcastInDim S1024x1 ![0] bcast_S1024_S1024x1_0 hTok⟩, ⟨S1024x1, broadcastInDim S1024x1 ![0] bcast_S1024_S1024x1_0 e⟩]
  concatenates_S1024x1_S1024x1_S1024x2_d1
/-- The probability of each token's expert. -/
def hPick (e : IVec S1024 32) : FVec Ideal S1024 .f32 := Host.gather gather_S1024x64_S1024x2_S1024_n_01_n_n_01_1_11 (hProb x rw) (hPair e)
/-- The product of each token with its expert's weights. -/
def hProd (w : FVec Ideal S64x512x1024 .f32) (e : IVec S1024 32) : FVec Ideal S1024x1024 .f32 :=
  Host.dotGeneral dot_S1024x512_S1024x512x1024_S1024x1024_1_1_n_2_0_0 none x
    (Host.gather gather_S64x512x1024_S1024x1_S1024x512x1024_12_0_n_n_0_1_15121024 w (broadcastInDim S1024x1 ![0] bcast_S1024_S1024x1_0 e))
/-- One expert's term. -/
def hTerm (w : FVec Ideal S64x512x1024 .f32) (e : IVec S1024 32) : FVec Ideal S1024x1024 .f32 :=
  mulf (broadcastInDim S1024x1024 ![0, 1] bcast_S1024x1_S1024x1024_0_1 (broadcastInDim S1024x1 ![0] bcast_S1024_S1024x1_0
    (Host.divf (hPick x rw e) (addf (hPick x rw (hE0 ix)) (hPick x rw (hE1 ix)))))) (hProd x w e)

end

variable (m : (ℓ : Loc nD τ sig) → Buf (Elt Ideal) ℓ)

theorem res_eq : res_out0 m 0 = addf (hTerm (m ((Dev.tc (0 : Dev nD) : Thread nD τ).loc main_arg0)) (m ((Dev.tc (0 : Dev nD) : Thread nD τ).loc main_arg1))
      (m ((Dev.tc (0 : Dev nD) : Thread nD τ).loc main_arg2)) (m ((Dev.tc (0 : Dev nD) : Thread nD τ).loc main_arg3))
      (hE0 (m ((Dev.tc (0 : Dev nD) : Thread nD τ).loc main_arg2))))
    (hTerm (m ((Dev.tc (0 : Dev nD) : Thread nD τ).loc main_arg0)) (m ((Dev.tc (0 : Dev nD) : Thread nD τ).loc main_arg1))
      (m ((Dev.tc (0 : Dev nD) : Thread nD τ).loc main_arg2)) (m ((Dev.tc (0 : Dev nD) : Thread nD τ).loc main_arg3))
      (hE1 (m ((Dev.tc (0 : Dev nD) : Thread nD τ).loc main_arg2)))) := rfl

section
variable (x : FVec Ideal S1024x512 .f32) (rw : FVec Ideal S512x64 .f32) (ix : IVec S1024x2 32)

theorem hProb_at (i : Fin 1024) (e : Fin 64) : hProb x rw (ix2 i e) = prob x rw i e := by
  pointwise [hProb, hExp, hScore, prob, wt, score]

theorem wrap_word (n k : ℕ) (hn : n < 2 ^ 31) :
    Scalar.select (IntOp.cmpi .slt (BitVec.ofNat 32 n) 0#32) (IntOp.addi (BitVec.ofNat 32 n) (BitVec.ofNat 32 k)) (BitVec.ofNat 32 n) = BitVec.ofNat 32 n := by
  have h : IntOp.cmpi .slt (BitVec.ofNat 32 n) 0#32 = BitVec.ofBool false := by
    show BitVec.ofBool (BitVec.slt _ _) = _
    rw [BitVec.slt_eq_decide, BitVec.toInt_eq_toNat_of_lt (by rw [BitVec.toNat_ofNat]; omega)]
    exact congrArg _ (decide_eq_false (by rw [not_lt]; exact Int.natCast_nonneg _))
  rw [h]; rfl

theorem hTok_at (i : Fin 1024) : hTok (ix1 i) = BitVec.ofNat 32 i.val := by
  refine Eq.trans ?_ (wrap_word i.val 1024 (by omega))
  pointwise [hTok]

theorem hE0_at (i : Fin 1024) (n : ℕ) (hn : n < 64) (h : ix (ix2 i 0) = BitVec.ofNat 32 n) : hE0 ix (ix1 i) = BitVec.ofNat 32 n := by
  refine Eq.trans ?_ (wrap_word n 64 (by omega))
  rw [← h]
  pointwise [hE0, hWrap]

theorem hE1_at (i : Fin 1024) (n : ℕ) (hn : n < 64) (h : ix (ix2 i 1) = BitVec.ofNat 32 n) : hE1 ix (ix1 i) = BitVec.ofNat 32 n := by
  refine Eq.trans ?_ (wrap_word n 64 (by omega))
  rw [← h]
  pointwise [hE1, hWrap]

theorem clamp {n k : ℕ} (h : n ≤ k) (hk : k < 2 ^ 31) : min (BitVec.ofNat 32 n).toInt.toNat k = n := by
  rw [BitVec.toInt_eq_toNat_of_lt (by rw [BitVec.toNat_ofNat]; omega), BitVec.toNat_ofNat, Nat.mod_eq_of_lt (by omega), Int.toNat_natCast, min_eq_left h]

theorem hPick_at (e : IVec S1024 32) (i : Fin 1024) (k : Fin 64) (h : e (ix1 i) = BitVec.ofNat 32 k.val) : hPick x rw e (ix1 i) = prob x rw i k := by
  have h0 : hPair e (ix2 i 0) = BitVec.ofNat 32 i.val := by
    rw [← hTok_at]
    pointwise [hPair]
  have h1 : hPair e (ix2 i 1) = BitVec.ofNat 32 k.val := by
    rw [← h]
    pointwise [hPair]
  unfold hPick
  rw [gather_pair, hProb_at]
  refine congrArg₂ (prob x rw) (Fin.ext ?_) (Fin.ext ?_)
  · show min (hPair e (ix2 i 0)).toInt.toNat 1023 = i.val
    rw [h0, clamp (by omega) (by omega)]
  · show min (hPair e (ix2 i 1)).toInt.toNat 63 = k.val
    rw [h1, clamp (by omega) (by omega)]

theorem hProd_at (w : FVec Ideal S64x512x1024 .f32) (e : IVec S1024 32) (i h : Fin 1024) (k : Fin 64) (hk : e (ix1 i) = BitVec.ofNat 32 k.val) :
    hProd x w e (ix2 i h) = ∑ d : Fin 512, x (ix2 i d) * w (ix3 k d h) := by
  have h1 : hProd x w e (ix2 i h) = ∑ d : Fin 512, x (ix2 i d) * Host.gather gather_S64x512x1024_S1024x1_S1024x512x1024_12_0_n_n_0_1_15121024 w
      (broadcastInDim S1024x1 ![0] bcast_S1024_S1024x1_0 e) (ix3 i d h) := by
    pointwise [hProd]
  have h2 : broadcastInDim S1024x1 ![0] bcast_S1024_S1024x1_0 e (ix2 i 0) = BitVec.ofNat 32 k.val := by
    rw [← hk]
    pointwise
  rw [h1]
  refine Finset.sum_congr rfl fun d _ => ?_
  rw [gather_expert]
  refine congrArg (fun n => x (ix2 i d) * w (ix3 n d h)) (Fin.ext ?_)
  show min (broadcastInDim S1024x1 ![0] bcast_S1024_S1024x1_0 e (ix2 i 0)).toInt.toNat 63 = k.val
  rw [h2, clamp (by omega) (by omega)]

theorem hTerm_at (R : Routed x rw ix) (w : FVec Ideal S64x512x1024 .f32) (e : IVec S1024 32) (i h : Fin 1024) (k : Fin 64) (hk : e (ix1 i) = BitVec.ofNat 32 k.val) :
    hTerm x rw ix w e (ix2 i h) = Ideal.div (prob x rw i k) (R.both i) * ∑ d : Fin 512, x (ix2 i d) * w (ix3 k d h) := by
  have h1 : hTerm x rw ix w e (ix2 i h)
      = Ideal.div (hPick x rw e (ix1 i)) (hPick x rw (hE0 ix) (ix1 i) + hPick x rw (hE1 ix) (ix1 i)) * hProd x w e (ix2 i h) := by
    pointwise [hTerm]
  rw [h1, hPick_at x rw e i k hk, hPick_at x rw _ i (R.e0 i) (hE0_at ix i _ (R.e0 i).isLt (R.at0 i)),
    hPick_at x rw _ i (R.e1 i) (hE1_at ix i _ (R.e1 i).isLt (R.at1 i)), hProd_at x w e i h k hk]
  rfl

end

/-- The reference's result at a token and a column. -/
theorem ref_at (R : Routed (m ((Dev.tc (0 : Dev nD) : Thread nD τ).loc main_arg0)) (m ((Dev.tc (0 : Dev nD) : Thread nD τ).loc main_arg1))
      (m ((Dev.tc (0 : Dev nD) : Thread nD τ).loc main_arg2))) (i h : Fin 1024) :
    res_out0 m 0 (ix2 i h) = mixed R (fun e d h => m ((Dev.tc (0 : Dev nD) : Thread nD τ).loc main_arg3) (ix3 e d h)) i h := by
  rw [res_eq]
  exact congrArg₂ (· + ·) (hTerm_at _ _ _ R _ _ i h (R.e0 i) (hE0_at _ i _ (R.e0 i).isLt (R.at0 i)))
    (hTerm_at _ _ _ R _ _ i h (R.e1 i) (hE1_at _ i _ (R.e1 i).isLt (R.at1 i)))

end Cert.Moe

end
-- ==== Proof.lean ====
/-
  The certificate: the frames, from the one run of the program over any float values and from the reference's run; that the idealized
  program is the program's own text; and that over the extended reals the devices' results are the blocks of the reference's, wherever the
  tokens are routed.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.HostVal
public import proofs.«01_k».proof.Proof.PreVal
public import proofs.«01_k».proof.Proof.RefVal

@[expose] public section

noncomputable section

namespace Cert.Proof

open Idealize.ShloMosaic Idealize.ShloMosaic.TcCoe Idealize.SL.Sem Cert.Kernel

/-- Over any float values, the program's run ends with its arguments unchanged and every counter at zero. -/
theorem frame_any (F : FTy → Type) [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.Moe.run_main m ρ)

/-- The two programs' body tables are one: each has the one label, and the same body under it. -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So are the tables with the pipeline's labels adjoined. -/
theorem tables_same : Cert.Kernel.defs (F := Bits) = Cert.KernelIdeal.defs (F := Bits) :=
  congrArg (Pipeline.defs Cert.KernelIdeal.pcfgs) bodies_same

/-- The kernel run on machine words ends with its arguments unchanged and every counter at zero. -/
theorem frame_kernel : Cert.quiescent_Kernel := fun m ρ _ => by
  rw [tables_same]
  exact frame_any Bits m ρ

/-- The same of the kernel on extended reals. -/
theorem frame_kernelIdeal : Cert.quiescent_KernelIdeal := fun m ρ _ => frame_any Ideal m ρ

/-- The reference ends with its arguments unchanged; it has no semaphores. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Of an array over the sixty-four experts, device `c`'s block is its four experts'. -/
theorem block_experts {α : Type} (c : Fin 16) (v : (⟨3, ![64, 512, 1024]⟩ : Shape).Idx → α) (j : Fin 4) (k : Fin 512) (h : Fin 1024) :
    Layout.block ⟨3, ![4, 512, 1024]⟩ ⟨3, ![64, 512, 1024]⟩ 0 16 c v (by decide) (ix3 j k h) = v (ix3 (Cert.Moe.exn c j) k h) := by
  rw [Layout.block_apply]
  refine congrArg v (funext fun b => Fin.ext ?_)
  match b with
  | 0 => exact congrArg (· + j.val) (Nat.mul_comm c.val 4)
  | 1 => rfl
  | 2 => rfl

/-- Of an array over the tokens, device `c`'s block is its sixty-four tokens'. -/
theorem block_tokens {α : Type} (c : Fin 16) (v : (⟨2, ![1024, 1024]⟩ : Shape).Idx → α) (a : Fin 64) (h : Fin 1024) :
    Layout.block ⟨2, ![64, 1024]⟩ ⟨2, ![1024, 1024]⟩ 0 16 c v (by decide) (ix2 a h) = v (ix2 (Cert.Moe.tok c a) h) := by
  rw [Layout.block_apply]
  refine congrArg v (funext fun b => Fin.ext ?_)
  match b with
  | 0 => exact congrArg (· + a.val) (Nat.mul_comm c.val 64)
  | 1 => rfl

/-- The reference's result, where the reference's arguments are routed, cut in sixteen blocks of rows: what the devices' results are. -/
theorem blocks_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (R : Cert.Moe.Routed (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)))
    (hm : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3)))
    (c : Dev Cert.KernelIdeal.nD) :
    Cert.Moe.result m c = Layout.block ⟨2, ![64, 1024]⟩ ⟨2, ![1024, 1024]⟩ 0 16 c (Cert.ReferenceIdeal.Value.res_out0 m' 0) := by
  funext i
  obtain ⟨a, h, rfl⟩ : ∃ (a : Fin 64) (h : Fin 1024), i = ix2 a h := ⟨i 0, i 1, eq_ix2 i⟩
  refine (Cert.Moe.result_at m R (fun e k h => m' (((0 : Dev Cert.ReferenceIdeal.nD).tc : Thread Cert.ReferenceIdeal.nD Cert.ReferenceIdeal.τ).loc Cert.ReferenceIdeal.main_arg3) (ix3 e k h))
    (fun c => (hm c).1) (fun c => (hm c).2.1) (fun c => (hm c).2.2.1) (fun c j k h => ?_) c a h).trans ?_
  · exact (congrFun (hm c).2.2.2 (ix3 j k h)).trans (block_experts c _ j k h)
  · exact (Cert.Moe.ref_at m' R (Cert.Moe.tok c a) h).symm.trans (block_tokens c _ a h).symm

/-- Where every device's tokens are routed, the kernel's results are the blocks of the reference's. -/
theorem value : Cert.algebraic_KernelIdeal_ReferenceIdeal_pre_routed_KernelIdeal (hPre_routed_KernelIdeal := Cert.Moe.preFacts) := fun m g m' g' hP hm => by
  haveI := Cert.Moe.preFacts
  have h0 := hP 0
  rw [(hm 0).1, (hm 0).2.1, (hm 0).2.2.1] at h0
  obtain ⟨R⟩ := Cert.Moe.routed_of h0
  refine ⟨Cert.ReferenceIdeal.Value.res_out0 m' 0, ?_, ?_⟩
  · exact (θ_run Cert.KernelIdeal.defs _ _).mono (fun _ h c => ⟨(h.1 c).1.trans (blocks_eq m m' R hm c), (h.1 c).2⟩) (Cert.Moe.run_main m g)
  · exact (θ_run Cert.ReferenceIdeal.defs _ _).mono (fun _ h => h 0) (Cert.ReferenceIdeal.Value.run (F := Ideal) m' g')

/-- Every claim of the certificate. -/
theorem claim : Cert.Claim := ⟨Cert.Kernel.Gen.facts, Cert.KernelIdeal.Gen.facts, Cert.ReferenceIdeal.Gen.facts, Cert.Moe.preFacts, Cert.Moe.preFacts',
  frame_kernel, frame_kernelIdeal, fun m ρ _ => frame_kernelIdeal m ρ trivial, frame_referenceIdeal, fun m ρ _ => frame_referenceIdeal m ρ trivial, trivial, value⟩

end Cert.Proof

end
